-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_leading_magnitudes_distinct [hPre_leading_magnitudes_distinct : Cert.Pre_leading_magnitudes_distinct.Facts] (m : (ℓ : Loc Cert.KernelIdeal.nD Cert.KernelIdeal.τ Cert.KernelIdeal.sig) → Buf (Elt Ideal) ℓ) : Prop :=
  ∀ c : Dev Cert.KernelIdeal.nD,
    (Cert.Pre_leading_magnitudes_distinct.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_leading_magnitudes_distinct [hPre_leading_magnitudes_distinct : Cert.Pre_leading_magnitudes_distinct.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_leading_magnitudes_distinct.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_leading_magnitudes_distinct [hKernelIdeal : Cert.KernelIdeal.Facts] [hPre_leading_magnitudes_distinct : Cert.Pre_leading_magnitudes_distinct.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_leading_magnitudes_distinct m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_leading_magnitudes_distinct [hReferenceIdeal : Cert.ReferenceIdeal.Facts] [hPre_leading_magnitudes_distinct : Cert.Pre_leading_magnitudes_distinct.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_leading_magnitudes_distinct m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_leading_magnitudes_distinct [hKernelIdeal : Cert.KernelIdeal.Facts] [hReferenceIdeal : Cert.ReferenceIdeal.Facts] [hPre_leading_magnitudes_distinct : Cert.Pre_leading_magnitudes_distinct.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_leading_magnitudes_distinct m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_leading_magnitudes_distinct : Cert.Pre_leading_magnitudes_distinct.Facts),
    quiescent_Kernel (hKernel := hKernel)
    ∧ quiescent_KernelIdeal (hKernelIdeal := hKernelIdeal)
    ∧ quiescent_KernelIdeal_pre_leading_magnitudes_distinct (hKernelIdeal := hKernelIdeal) (hPre_leading_magnitudes_distinct := hPre_leading_magnitudes_distinct)
    ∧ quiescent_ReferenceIdeal (hReferenceIdeal := hReferenceIdeal)
    ∧ quiescent_ReferenceIdeal_pre_leading_magnitudes_distinct (hReferenceIdeal := hReferenceIdeal) (hPre_leading_magnitudes_distinct := hPre_leading_magnitudes_distinct)
    ∧ preserves_Kernel_KernelIdeal
    ∧ algebraic_KernelIdeal_ReferenceIdeal_pre_leading_magnitudes_distinct (hKernelIdeal := hKernelIdeal) (hReferenceIdeal := hReferenceIdeal) (hPre_leading_magnitudes_distinct := hPre_leading_magnitudes_distinct)
-- ==== Pre_leading_magnitudes_distinct.lean ====
abbrev S128x512x512 : Shape := ⟨3, ![128, 512, 512]⟩
abbrev S64x512 : Shape := ⟨2, ![64, 512]⟩
abbrev S64 : Shape := ⟨1, ![64]⟩
abbrev S128x576 : Shape := ⟨2, ![128, 576]⟩
abbrev S128 : Shape := ⟨1, ![128]⟩
abbrev S96x128 : Shape := ⟨2, ![96, 128]⟩
abbrev S96 : Shape := ⟨1, ![96]⟩
abbrev S257 : Shape := ⟨1, ![257]⟩
abbrev S257x1 : Shape := ⟨2, ![257, 1]⟩
abbrev S512 : Shape := ⟨1, ![512]⟩
abbrev S1x512 : Shape := ⟨2, ![1, 512]⟩
abbrev S257x512 : Shape := ⟨2, ![257, 512]⟩
abbrev S_ : Shape := ⟨0, ![]⟩
abbrev S128x512x257 : Shape := ⟨3, ![128, 512, 257]⟩
abbrev S128x512x21 : Shape := ⟨3, ![128, 512, 21]⟩
abbrev S128x512x20 : Shape := ⟨3, ![128, 512, 20]⟩

class Facts : Prop where
  bcast_S257_S257x1_0 : S257.BroadcastsInDim S257x1 (![0] : Fin 1 → Fin S257x1.rank)
  bcast_S512_S1x512_1 : S512.BroadcastsInDim S1x512 (![1] : Fin 1 → Fin S1x512.rank)
  bcast_S257x1_S257x512_0_1 : S257x1.BroadcastsInDim S257x512 (![0, 1] : Fin 2 → Fin S257x512.rank)
  bcast_S1x512_S257x512_0_1 : S1x512.BroadcastsInDim S257x512 (![0, 1] : Fin 2 → Fin S257x512.rank)
  bcast_S_S257x512 : S_.BroadcastsInDim S257x512 (![] : Fin 0 → Fin S257x512.rank)
  transposes_S128x512x512_S128x512x512_0_2_1 : S128x512x512.Transposes [0, 2, 1] S128x512x512
  sliceFits_S128x512x257_S128x512x21 : S128x512x257.Slices (fun _ => 0) S128x512x21
  slices_S128x512x21_S128x512x20_0_0_0 : S128x512x21.Slices ![0, 0, 0] S128x512x20
  slices_S128x512x21_S128x512x20_0_0_1 : S128x512x21.Slices ![0, 0, 1] S128x512x20
  dot_S128x512x512_S257x512_S128x512x257_2_1_01_0_n_n_wf : DotDims.WF S128x512x512 S257x512 S128x512x257 [2] [1] [0, 1] [0] [] []

variable [Facts]

def dot_S128x512x512_S257x512_S128x512x257_2_1_01_0_n_n : DotDims S128x512x512 S257x512 S128x512x257 where
  lhsContracting := [2]
  rhsContracting := [1]
  lhsNonContracting := [0, 1]
  rhsNonContracting := [0]
  lhsBatch := []
  rhsBatch := []
  wf := dot_S128x512x512_S257x512_S128x512x257_2_1_01_0_n_n_wf
def fn_part1 {F : FTy → Type} [FloatOps F] (main_v19 : FVec F S128x512x257 .f32) (main_v20 : FVec F S128x512x257 .f32) : IVec S128x512x20 1 :=
  let main_v21 : FVec F S128x512x257 .f32 := addf main_v19 main_v20
  let main_v22 : FVec F S128x512x257 .f32 := Host.sqrt main_v21
  let main_values : FVec F S128x512x21 .f32 := (fun x => (Host.topK S128x512x21 2 (FloatOps.cmpfTotal .gt) x sliceFits_S128x512x257_S128x512x21).1) main_v22
  let main_indices : IVec S128x512x21 32 := (fun x => (Host.topK S128x512x21 2 (FloatOps.cmpfTotal .gt) x sliceFits_S128x512x257_S128x512x21).2) main_v22
  let main_v23 : FVec F S128x512x20 .f32 := (extractStridedSlice S128x512x20 ![0, 0, 0] · slices_S128x512x21_S128x512x20_0_0_0) main_values
  let main_v24 : FVec F S128x512x20 .f32 := (extractStridedSlice S128x512x20 ![0, 0, 1] · slices_S128x512x21_S128x512x20_0_0_1) main_values
  let main_v25 : IVec S128x512x20 1 := cmpf .ogt main_v23 main_v24
  main_v25

def fn {F : FTy → Type} [FloatOps F] (main_arg0 : FVec F S128x512x512 .f32) (main_arg1 : FVec F S64x512 .f32) (main_arg2 : FVec F S64 .f32) (main_arg3 : FVec F S128x576 .f32) (main_arg4 : FVec F S128 .f32) (main_arg5 : FVec F S96x128 .f32) (main_arg6 : FVec F S96 .f32) : IVec S128x512x20 1 :=
  let main_v0 : IVec S257 32 := iotaInDim S257 32 0
  let main_v1 : IVec S257x1 32 := broadcastInDim S257x1 ![0] bcast_S257_S257x1_0 main_v0
  let main_v2 : IVec S512 32 := iotaInDim S512 32 0
  let main_v3 : IVec S1x512 32 := broadcastInDim S1x512 ![1] bcast_S512_S1x512_1 main_v2
  let main_v4 : IVec S257x512 32 := broadcastInDim S257x512 ![0, 1] bcast_S257x1_S257x512_0_1 main_v1
  let main_v5 : IVec S257x512 32 := broadcastInDim S257x512 ![0, 1] bcast_S1x512_S257x512_0_1 main_v3
  let main_v6 : IVec S257x512 32 := muli main_v4 main_v5
  let main_c : IVec S_ 32 := constantI S_ 32 512#32
  let main_v7 : IVec S257x512 32 := broadcastInDim S257x512 ![] bcast_S_S257x512 main_c
  let main_v8 : IVec S257x512 32 := Host.remsi main_v6 main_v7
  let main_v9 : FVec F S257x512 .f32 := sitofp .f32 main_v8
  let main_cst : FVec F S_ .f32 := constant S_ .f32 0x3F800000#32
  let main_v10 : FVec F S_ .f32 := Host.atan main_cst
  let main_cst_0 : FVec F S_ .f32 := constant S_ .f32 0x3C800000#32
  let main_v11 : FVec F S_ .f32 := mulf main_v10 main_cst_0
  let main_v12 : FVec F S257x512 .f32 := broadcastInDim S257x512 ![] bcast_S_S257x512 main_v11
  let main_v13 : FVec F S257x512 .f32 := mulf main_v9 main_v12
  let main_v14 : FVec F S257x512 .f32 := Host.cos main_v13
  let main_v15 : FVec F S257x512 .f32 := Host.sin main_v13
  let main_v16 : FVec F S128x512x512 .f32 := (transpose S128x512x512 [0, 2, 1] · transposes_S128x512x512_S128x512x512_0_2_1) main_arg0
  let main_v17 : FVec F S128x512x257 .f32 := (fun l r => Host.dotGeneral dot_S128x512x512_S257x512_S128x512x257_2_1_01_0_n_n none l r) main_v16 main_v14
  let main_v18 : FVec F S128x512x257 .f32 := (fun l r => Host.dotGeneral dot_S128x512x512_S257x512_S128x512x257_2_1_01_0_n_n none l r) main_v16 main_v15
  let main_v19 : FVec F S128x512x257 .f32 := mulf main_v17 main_v17
  let main_v20 : FVec F S128x512x257 .f32 := mulf main_v18 main_v18
  fn_part1 (F := F) main_v19 main_v20
-- ==== Kernel.lean ====
abbrev S128x512x512 : Shape := ⟨3, ![128, 512, 512]⟩
abbrev S64x512 : Shape := ⟨2, ![64, 512]⟩
abbrev S64 : Shape := ⟨1, ![64]⟩
abbrev S128x576 : Shape := ⟨2, ![128, 576]⟩
abbrev S128 : Shape := ⟨1, ![128]⟩
abbrev S96x128 : Shape := ⟨2, ![96, 128]⟩
abbrev S96 : Shape := ⟨1, ![96]⟩
abbrev S512 : Shape := ⟨1, ![512]⟩
abbrev S257 : Shape := ⟨1, ![257]⟩
abbrev S257x1 : Shape := ⟨2, ![257, 1]⟩
abbrev S1x512 : Shape := ⟨2, ![1, 512]⟩
abbrev S257x512 : Shape := ⟨2, ![257, 512]⟩
abbrev S_ : Shape := ⟨0, ![]⟩
abbrev S7x512 : Shape := ⟨2, ![7, 512]⟩
abbrev S264x512 : Shape := ⟨2, ![264, 512]⟩
abbrev S528x512 : Shape := ⟨2, ![528, 512]⟩
abbrev S512x7 : Shape := ⟨2, ![512, 7]⟩
abbrev S512x257 : Shape := ⟨2, ![512, 257]⟩
abbrev S512x264 : Shape := ⟨2, ![512, 264]⟩
abbrev S4x512x512 : Shape := ⟨3, ![4, 512, 512]⟩
abbrev S2x4x528x512 : Shape := ⟨4, ![2, 4, 528, 512]⟩
abbrev S1x512x512 : Shape := ⟨3, ![1, 512, 512]⟩
abbrev S512x512 : Shape := ⟨2, ![512, 512]⟩
abbrev S1x1x528x512 : Shape := ⟨4, ![1, 1, 528, 512]⟩
abbrev S132x512 : Shape := ⟨2, ![132, 512]⟩
abbrev S66x512 : Shape := ⟨2, ![66, 512]⟩

abbrev nBuf : Space → Nat
  | .hbm => 61
  | .vmem => 11
  | .smem => 0
  | _ => 0

abbrev bufTy : (tb : Table) → Fin (tcTables nBuf tb) → BufTy
  | .hbm, ⟨0, _⟩ => ⟨S128x512x512, .f32⟩
  | .hbm, ⟨1, _⟩ => ⟨S64x512, .f32⟩
  | .hbm, ⟨2, _⟩ => ⟨S64, .f32⟩
  | .hbm, ⟨3, _⟩ => ⟨S128x576, .f32⟩
  | .hbm, ⟨4, _⟩ => ⟨S128, .f32⟩
  | .hbm, ⟨5, _⟩ => ⟨S96x128, .f32⟩
  | .hbm, ⟨6, _⟩ => ⟨S96, .f32⟩
  | .hbm, ⟨7, _⟩ => ⟨S512, .i32⟩
  | .hbm, ⟨8, _⟩ => ⟨S257, .i32⟩
  | .hbm, ⟨9, _⟩ => ⟨S257x1, .i32⟩
  | .hbm, ⟨10, _⟩ => ⟨S1x512, .i32⟩
  | .hbm, ⟨11, _⟩ => ⟨S257x512, .i32⟩
  | .hbm, ⟨12, _⟩ => ⟨S257x512, .i32⟩
  | .hbm, ⟨13, _⟩ => ⟨S257x512, .i32⟩
  | .hbm, ⟨14, _⟩ => ⟨S_, .i32⟩
  | .hbm, ⟨15, _⟩ => ⟨S257x512, .i32⟩
  | .hbm, ⟨16, _⟩ => ⟨S257x512, .i32⟩
  | .hbm, ⟨17, _⟩ => ⟨S257x512, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S257x512, .f32⟩
  | .hbm, ⟨23, _⟩ => ⟨S257x512, .f32⟩
  | .hbm, ⟨24, _⟩ => ⟨S257x512, .f32⟩
  | .hbm, ⟨25, _⟩ => ⟨S257x512, .f32⟩
  | .hbm, ⟨26, _⟩ => ⟨S_, .i32⟩
  | .hbm, ⟨27, _⟩ => ⟨S257, .i32⟩
  | .hbm, ⟨28, _⟩ => ⟨S257, .i1⟩
  | .hbm, ⟨29, _⟩ => ⟨S_, .i32⟩
  | .hbm, ⟨30, _⟩ => ⟨S257, .i32⟩
  | .hbm, ⟨31, _⟩ => ⟨S257, .i1⟩
  | .hbm, ⟨32, _⟩ => ⟨S257, .i1⟩
  | .hbm, ⟨33, _⟩ => ⟨S_, .f32⟩
  | .hbm, ⟨34, _⟩ => ⟨S257, .f32⟩
  | .hbm, ⟨35, _⟩ => ⟨S_, .f32⟩
  | .hbm, ⟨36, _⟩ => ⟨S257, .f32⟩
  | .hbm, ⟨37, _⟩ => ⟨S257, .f32⟩
  | .hbm, ⟨38, _⟩ => ⟨S257x1, .f32⟩
  | .hbm, ⟨39, _⟩ => ⟨S_, .f32⟩
  | .hbm, ⟨40, _⟩ => ⟨S7x512, .f32⟩
  | .hbm, ⟨41, _⟩ => ⟨S264x512, .f32⟩
  | .hbm, ⟨42, _⟩ => ⟨S264x512, .f32⟩
  | .hbm, ⟨43, _⟩ => ⟨S528x512, .f32⟩
  | .hbm, ⟨44, _⟩ => ⟨S_, .f32⟩
  | .hbm, ⟨45, _⟩ => ⟨S512x7, .f32⟩
  | .hbm, ⟨46, _⟩ => ⟨S257x512, .f32⟩
  | .hbm, ⟨47, _⟩ => ⟨S257x512, .f32⟩
  | .hbm, ⟨48, _⟩ => ⟨S512x257, .f32⟩
  | .hbm, ⟨49, _⟩ => ⟨S512x264, .f32⟩
  | .hbm, ⟨50, _⟩ => ⟨S257x512, .f32⟩
  | .hbm, ⟨51, _⟩ => ⟨S257x512, .f32⟩
  | .hbm, ⟨52, _⟩ => ⟨S512x257, .f32⟩
  | .hbm, ⟨53, _⟩ => ⟨S512x264, .f32⟩
  | .hbm, ⟨54, _⟩ => ⟨S528x512, .bf16⟩
  | .hbm, ⟨55, _⟩ => ⟨S528x512, .f32⟩
  | .hbm, ⟨56, _⟩ => ⟨S528x512, .f32⟩
  | .hbm, ⟨57, _⟩ => ⟨S528x512, .bf16⟩
  | .hbm, ⟨58, _⟩ => ⟨S512x264, .bf16⟩
  | .hbm, ⟨59, _⟩ => ⟨S512x264, .bf16⟩
  | .hbm, ⟨60, _⟩ => ⟨S128x512x512, .f32⟩
  | .local _ .vmem, ⟨0, _⟩ => ⟨S4x512x512, .f32⟩
  | .local _ .vmem, ⟨1, _⟩ => ⟨S4x512x512, .f32⟩
  | .local _ .vmem, ⟨2, _⟩ => ⟨S4x512x512, .f32⟩
  | .local _ .vmem, ⟨3, _⟩ => ⟨S4x512x512, .f32⟩
  | .local _ .vmem, ⟨4, _⟩ => ⟨S528x512, .bf16⟩
  | .local _ .vmem, ⟨5, _⟩ => ⟨S528x512, .bf16⟩
  | .local _ .vmem, ⟨6, _⟩ => ⟨S512x264, .bf16⟩
  | .local _ .vmem, ⟨7, _⟩ => ⟨S512x264, .bf16⟩
  | .local _ .vmem, ⟨8, _⟩ => ⟨S4x512x512, .f32⟩
  | .local _ .vmem, ⟨9, _⟩ => ⟨S4x512x512, .f32⟩
  | .local _ .vmem, ⟨10, _⟩ => ⟨S2x4x528x512, .f32⟩
  | _, _ => ⟨S128x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_c : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_cst : Ref sig .tc := ⟨.hbm, 18, rfl⟩
abbrev main_call0_v10 : Ref sig .tc := ⟨.hbm, 19, rfl⟩
abbrev main_call0_cst_0 : Ref sig .tc := ⟨.hbm, 20, rfl⟩
abbrev main_call0_v11 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_v15 : Ref sig .tc := ⟨.hbm, 25, rfl⟩
abbrev main_call0_c_1 : Ref sig .tc := ⟨.hbm, 26, rfl⟩
abbrev main_call0_v16 : Ref sig .tc := ⟨.hbm, 27, rfl⟩
abbrev main_call0_v17 : Ref sig .tc := ⟨.hbm, 28, rfl⟩
abbrev main_call0_c_2 : Ref sig .tc := ⟨.hbm, 29, rfl⟩
abbrev main_call0_v18 : Ref sig .tc := ⟨.hbm, 30, rfl⟩
abbrev main_call0_v19 : Ref sig .tc := ⟨.hbm, 31, rfl⟩
abbrev main_call0_v20 : Ref sig .tc := ⟨.hbm, 32, rfl⟩
abbrev main_call0_cst_3 : Ref sig .tc := ⟨.hbm, 33, rfl⟩
abbrev main_call0_v21 : Ref sig .tc := ⟨.hbm, 34, rfl⟩
abbrev main_call0_cst_4 : Ref sig .tc := ⟨.hbm, 35, rfl⟩
abbrev main_call0_v22 : Ref sig .tc := ⟨.hbm, 36, rfl⟩
abbrev main_call0_v23 : Ref sig .tc := ⟨.hbm, 37, rfl⟩
abbrev main_call0_v24 : Ref sig .tc := ⟨.hbm, 38, rfl⟩
abbrev main_call0_cst_5 : Ref sig .tc := ⟨.hbm, 39, rfl⟩
abbrev main_call0_v25 : Ref sig .tc := ⟨.hbm, 40, rfl⟩
abbrev main_call0_v26 : Ref sig .tc := ⟨.hbm, 41, rfl⟩
abbrev main_call0_v27 : Ref sig .tc := ⟨.hbm, 42, rfl⟩
abbrev main_call0_v28 : Ref sig .tc := ⟨.hbm, 43, rfl⟩
abbrev main_call0_cst_6 : Ref sig .tc := ⟨.hbm, 44, rfl⟩
abbrev main_call0_v29 : Ref sig .tc := ⟨.hbm, 45, rfl⟩
abbrev main_call0_v30 : Ref sig .tc := ⟨.hbm, 46, rfl⟩
abbrev main_call0_v31 : Ref sig .tc := ⟨.hbm, 47, rfl⟩
abbrev main_call0_v32 : Ref sig .tc := ⟨.hbm, 48, rfl⟩
abbrev main_call0_v33 : Ref sig .tc := ⟨.hbm, 49, rfl⟩
abbrev main_call0_v34 : Ref sig .tc := ⟨.hbm, 50, rfl⟩
abbrev main_call0_v35 : Ref sig .tc := ⟨.hbm, 51, rfl⟩
abbrev main_call0_v36 : Ref sig .tc := ⟨.hbm, 52, rfl⟩
abbrev main_call0_v37 : Ref sig .tc := ⟨.hbm, 53, rfl⟩
abbrev main_call0_v38 : Ref sig .tc := ⟨.hbm, 54, rfl⟩
abbrev main_call0_v39 : Ref sig .tc := ⟨.hbm, 55, rfl⟩
abbrev main_call0_v40 : Ref sig .tc := ⟨.hbm, 56, rfl⟩
abbrev main_call0_v41 : Ref sig .tc := ⟨.hbm, 57, rfl⟩
abbrev main_call0_v42 : Ref sig .tc := ⟨.hbm, 58, rfl⟩
abbrev main_call0_v43 : Ref sig .tc := ⟨.hbm, 59, rfl⟩
abbrev main_v0 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![33], ![false]⟩

def k0_off1 (i : grid0.Coords) : Fin 4 → Nat :=
  let arg0 : BitVec 32 := BitVec.ofNat 32 (i 0).val
  let c2_i32 : BitVec 32 := 2#32
  let v0 : BitVec 32 := Scalar.remsi arg0 c2_i32
  let v18 : Index := Scalar.indexCast v0
  let c0_9 : Index := 0#32
  let c0_10 : Index := 0#32
  let c0_11 : Index := 0#32
  ![v18.toNat, 0, 0, 0]
def k0_off2 (i : grid0.Coords) : Fin 4 → Nat :=
  let arg0 : BitVec 32 := BitVec.ofNat 32 (i 0).val
  let c2_i32 : BitVec 32 := 2#32
  let v0 : BitVec 32 := Scalar.remsi arg0 c2_i32
  let v33 : Index := Scalar.indexCast v0
  let c1_17 : Index := 1#32
  let c0_18 : Index := 0#32
  let c0_19 : Index := 0#32
  ![v33.toNat, 1, 0, 0]
def k0_off3 (i : grid0.Coords) : Fin 4 → Nat :=
  let arg0 : BitVec 32 := BitVec.ofNat 32 (i 0).val
  let c2_i32 : BitVec 32 := 2#32
  let v0 : BitVec 32 := Scalar.remsi arg0 c2_i32
  let v48 : Index := Scalar.indexCast v0
  let c2_25 : Index := 2#32
  let c0_26 : Index := 0#32
  let c0_27 : Index := 0#32
  ![v48.toNat, 2, 0, 0]
def k0_off4 (i : grid0.Coords) : Fin 4 → Nat :=
  let arg0 : BitVec 32 := BitVec.ofNat 32 (i 0).val
  let c2_i32 : BitVec 32 := 2#32
  let v0 : BitVec 32 := Scalar.remsi arg0 c2_i32
  let v63 : Index := Scalar.indexCast v0
  let c3_33 : Index := 3#32
  let c0_34 : Index := 0#32
  let c0_35 : Index := 0#32
  ![v63.toNat, 3, 0, 0]
def k0_off5 (i : grid0.Coords) : Fin 4 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let v67 : Index := Scalar.indexCast v2
  let c0_36 : Index := 0#32
  let c0_37 : Index := 0#32
  let c0_38 : Index := 0#32
  ![v67.toNat, 0, 0, 0]
def k0_off6 (i : grid0.Coords) : Fin 4 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let v276 : Index := Scalar.indexCast v2
  let c1_89 : Index := 1#32
  let c0_90 : Index := 0#32
  let c0_91 : Index := 0#32
  ![v276.toNat, 1, 0, 0]
def k0_off7 (i : grid0.Coords) : Fin 4 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let v485 : Index := Scalar.indexCast v2
  let c2_142 : Index := 2#32
  let c0_143 : Index := 0#32
  let c0_144 : Index := 0#32
  ![v485.toNat, 2, 0, 0]
def k0_off8 (i : grid0.Coords) : Fin 4 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let v694 : Index := Scalar.indexCast v2
  let c3_195 : Index := 3#32
  let c0_196 : Index := 0#32
  let c0_197 : Index := 0#32
  ![v694.toNat, 3, 0, 0]
def cc0_transform_0 (i : grid0.Coords) : Fin 3 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  let c0_i32_1 : BitVec 32 := 0#32
  ![v0.toNat, c0_i32.toNat, c0_i32_0.toNat]

def cc0_transform_1 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

abbrev stage0_0 : Fin 2 → Memref sig .tc .vmem S4x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S528x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S528x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x264 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x264 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S128x512x512 : Shape := ⟨3, ![128, 512, 512]⟩
abbrev S64x512 : Shape := ⟨2, ![64, 512]⟩
abbrev S64 : Shape := ⟨1, ![64]⟩
abbrev S128x576 : Shape := ⟨2, ![128, 576]⟩
abbrev S128 : Shape := ⟨1, ![128]⟩
abbrev S96x128 : Shape := ⟨2, ![96, 128]⟩
abbrev S96 : Shape := ⟨1, ![96]⟩
abbrev S257 : Shape := ⟨1, ![257]⟩
abbrev S257x1 : Shape := ⟨2, ![257, 1]⟩
abbrev S512 : Shape := ⟨1, ![512]⟩
abbrev S1x512 : Shape := ⟨2, ![1, 512]⟩
abbrev S257x512 : Shape := ⟨2, ![257, 512]⟩
abbrev S_ : Shape := ⟨0, ![]⟩
abbrev S128x512x257 : Shape := ⟨3, ![128, 512, 257]⟩
abbrev S128x512x20 : Shape := ⟨3, ![128, 512, 20]⟩
abbrev S128x20x512 : Shape := ⟨3, ![128, 20, 512]⟩
abbrev S128x1x1 : Shape := ⟨3, ![128, 1, 1]⟩
abbrev S1x1x512 : Shape := ⟨3, ![1, 1, 512]⟩
abbrev S128x257x512 : Shape := ⟨3, ![128, 257, 512]⟩
abbrev S128x20x512x1 : Shape := ⟨4, ![128, 20, 512, 1]⟩
abbrev S128x20x512x3 : Shape := ⟨4, ![128, 20, 512, 3]⟩

abbrev nBuf : Space → Nat
  | .hbm => 120
  | .vmem => 0
  | .smem => 0
  | _ => 0

abbrev bufTy : (tb : Table) → Fin (tcTables nBuf tb) → BufTy
  | .hbm, ⟨0, _⟩ => ⟨S128x512x512, .f32⟩
  | .hbm, ⟨1, _⟩ => ⟨S64x512, .f32⟩
  | .hbm, ⟨2, _⟩ => ⟨S64, .f32⟩
  | .hbm, ⟨3, _⟩ => ⟨S128x576, .f32⟩
  | .hbm, ⟨4, _⟩ => ⟨S128, .f32⟩
  | .hbm, ⟨5, _⟩ => ⟨S96x128, .f32⟩
  | .hbm, ⟨6, _⟩ => ⟨S96, .f32⟩
  | .hbm, ⟨7, _⟩ => ⟨S257, .i32⟩
  | .hbm, ⟨8, _⟩ => ⟨S257x1, .i32⟩
  | .hbm, ⟨9, _⟩ => ⟨S512, .i32⟩
  | .hbm, ⟨10, _⟩ => ⟨S1x512, .i32⟩
  | .hbm, ⟨11, _⟩ => ⟨S257x512, .i32⟩
  | .hbm, ⟨12, _⟩ => ⟨S257x512, .i32⟩
  | .hbm, ⟨13, _⟩ => ⟨S257x512, .i32⟩
  | .hbm, ⟨14, _⟩ => ⟨S_, .i32⟩
  | .hbm, ⟨15, _⟩ => ⟨S257x512, .i32⟩
  | .hbm, ⟨16, _⟩ => ⟨S257x512, .i32⟩
  | .hbm, ⟨17, _⟩ => ⟨S257x512, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S257x512, .f32⟩
  | .hbm, ⟨23, _⟩ => ⟨S257x512, .f32⟩
  | .hbm, ⟨24, _⟩ => ⟨S257x512, .f32⟩
  | .hbm, ⟨25, _⟩ => ⟨S257x512, .f32⟩
  | .hbm, ⟨26, _⟩ => ⟨S257, .i32⟩
  | .hbm, ⟨27, _⟩ => ⟨S257x1, .i32⟩
  | .hbm, ⟨28, _⟩ => ⟨S512, .i32⟩
  | .hbm, ⟨29, _⟩ => ⟨S1x512, .i32⟩
  | .hbm, ⟨30, _⟩ => ⟨S257x512, .i32⟩
  | .hbm, ⟨31, _⟩ => ⟨S257x512, .i32⟩
  | .hbm, ⟨32, _⟩ => ⟨S257x512, .i32⟩
  | .hbm, ⟨33, _⟩ => ⟨S_, .i32⟩
  | .hbm, ⟨34, _⟩ => ⟨S257x512, .i32⟩
  | .hbm, ⟨35, _⟩ => ⟨S257x512, .i32⟩
  | .hbm, ⟨36, _⟩ => ⟨S257x512, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S257x512, .f32⟩
  | .hbm, ⟨42, _⟩ => ⟨S257x512, .f32⟩
  | .hbm, ⟨43, _⟩ => ⟨S257x512, .f32⟩
  | .hbm, ⟨44, _⟩ => ⟨S257x512, .f32⟩
  | .hbm, ⟨45, _⟩ => ⟨S257, .i32⟩
  | .hbm, ⟨46, _⟩ => ⟨S_, .i32⟩
  | .hbm, ⟨47, _⟩ => ⟨S257, .i32⟩
  | .hbm, ⟨48, _⟩ => ⟨S257, .i1⟩
  | .hbm, ⟨49, _⟩ => ⟨S_, .i32⟩
  | .hbm, ⟨50, _⟩ => ⟨S257, .i32⟩
  | .hbm, ⟨51, _⟩ => ⟨S257, .i1⟩
  | .hbm, ⟨52, _⟩ => ⟨S257, .i1⟩
  | .hbm, ⟨53, _⟩ => ⟨S_, .f32⟩
  | .hbm, ⟨54, _⟩ => ⟨S257, .f32⟩
  | .hbm, ⟨55, _⟩ => ⟨S_, .f32⟩
  | .hbm, ⟨56, _⟩ => ⟨S257, .f32⟩
  | .hbm, ⟨57, _⟩ => ⟨S257, .f32⟩
  | .hbm, ⟨58, _⟩ => ⟨S257x1, .f32⟩
  | .hbm, ⟨59, _⟩ => ⟨S257x512, .f32⟩
  | .hbm, ⟨60, _⟩ => ⟨S257x512, .f32⟩
  | .hbm, ⟨61, _⟩ => ⟨S257x1, .f32⟩
  | .hbm, ⟨62, _⟩ => ⟨S257x512, .f32⟩
  | .hbm, ⟨63, _⟩ => ⟨S257x512, .f32⟩
  | .hbm, ⟨64, _⟩ => ⟨S128x512x512, .f32⟩
  | .hbm, ⟨65, _⟩ => ⟨S128x512x257, .f32⟩
  | .hbm, ⟨66, _⟩ => ⟨S128x512x257, .f32⟩
  | .hbm, ⟨67, _⟩ => ⟨S128x512x257, .f32⟩
  | .hbm, ⟨68, _⟩ => ⟨S128x512x257, .f32⟩
  | .hbm, ⟨69, _⟩ => ⟨S128x512x257, .f32⟩
  | .hbm, ⟨70, _⟩ => ⟨S128x512x257, .f32⟩
  | .hbm, ⟨71, _⟩ => ⟨S128x512x20, .f32⟩
  | .hbm, ⟨72, _⟩ => ⟨S128x512x20, .i32⟩
  | .hbm, ⟨73, _⟩ => ⟨S128x20x512, .i32⟩
  | .hbm, ⟨74, _⟩ => ⟨S128, .i32⟩
  | .hbm, ⟨75, _⟩ => ⟨S128x1x1, .i32⟩
  | .hbm, ⟨76, _⟩ => ⟨S512, .i32⟩
  | .hbm, ⟨77, _⟩ => ⟨S1x1x512, .i32⟩
  | .hbm, ⟨78, _⟩ => ⟨S_, .f32⟩
  | .hbm, ⟨79, _⟩ => ⟨S128x257x512, .f32⟩
  | .hbm, ⟨80, _⟩ => ⟨S_, .i32⟩
  | .hbm, ⟨81, _⟩ => ⟨S128x1x1, .i32⟩
  | .hbm, ⟨82, _⟩ => ⟨S128x1x1, .i1⟩
  | .hbm, ⟨83, _⟩ => ⟨S_, .i32⟩
  | .hbm, ⟨84, _⟩ => ⟨S128x1x1, .i32⟩
  | .hbm, ⟨85, _⟩ => ⟨S128x1x1, .i32⟩
  | .hbm, ⟨86, _⟩ => ⟨S128x1x1, .i32⟩
  | .hbm, ⟨87, _⟩ => ⟨S_, .i32⟩
  | .hbm, ⟨88, _⟩ => ⟨S128x20x512, .i32⟩
  | .hbm, ⟨89, _⟩ => ⟨S128x20x512, .i1⟩
  | .hbm, ⟨90, _⟩ => ⟨S_, .i32⟩
  | .hbm, ⟨91, _⟩ => ⟨S128x20x512, .i32⟩
  | .hbm, ⟨92, _⟩ => ⟨S128x20x512, .i32⟩
  | .hbm, ⟨93, _⟩ => ⟨S128x20x512, .i32⟩
  | .hbm, ⟨94, _⟩ => ⟨S_, .i32⟩
  | .hbm, ⟨95, _⟩ => ⟨S1x1x512, .i32⟩
  | .hbm, ⟨96, _⟩ => ⟨S1x1x512, .i1⟩
  | .hbm, ⟨97, _⟩ => ⟨S_, .i32⟩
  | .hbm, ⟨98, _⟩ => ⟨S1x1x512, .i32⟩
  | .hbm, ⟨99, _⟩ => ⟨S1x1x512, .i32⟩
  | .hbm, ⟨100, _⟩ => ⟨S1x1x512, .i32⟩
  | .hbm, ⟨101, _⟩ => ⟨S128x20x512, .i32⟩
  | .hbm, ⟨102, _⟩ => ⟨S128x20x512, .i32⟩
  | .hbm, ⟨103, _⟩ => ⟨S128x20x512x1, .i32⟩
  | .hbm, ⟨104, _⟩ => ⟨S128x20x512x1, .i32⟩
  | .hbm, ⟨105, _⟩ => ⟨S128x20x512x1, .i32⟩
  | .hbm, ⟨106, _⟩ => ⟨S128x20x512x3, .i32⟩
  | .hbm, ⟨107, _⟩ => ⟨S_, .f32⟩
  | .hbm, ⟨108, _⟩ => ⟨S128x20x512, .f32⟩
  | .hbm, ⟨109, _⟩ => ⟨S128x257x512, .f32⟩
  | .hbm, ⟨110, _⟩ => ⟨S128x257x512, .f32⟩
  | .hbm, ⟨111, _⟩ => ⟨S128x257x512, .f32⟩
  | .hbm, ⟨112, _⟩ => ⟨S128x257x512, .f32⟩
  | .hbm, ⟨113, _⟩ => ⟨S128x257x512, .f32⟩
  | .hbm, ⟨114, _⟩ => ⟨S128x512x512, .f32⟩
  | .hbm, ⟨115, _⟩ => ⟨S128x512x512, .f32⟩
  | .hbm, ⟨116, _⟩ => ⟨S128x512x512, .f32⟩
  | .hbm, ⟨117, _⟩ => ⟨S128x512x512, .f32⟩
  | .hbm, ⟨118, _⟩ => ⟨S128x512x512, .f32⟩
  | .hbm, ⟨119, _⟩ => ⟨S128x512x512, .f32⟩
  | _, _ => ⟨S128x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_1 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_2 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_c_4 : Ref sig .tc := ⟨.hbm, 46, rfl⟩
abbrev main_v33 : Ref sig .tc := ⟨.hbm, 47, rfl⟩
abbrev main_v34 : Ref sig .tc := ⟨.hbm, 48, rfl⟩
abbrev main_c_5 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_cst_7 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_values : Ref sig .tc := ⟨.hbm, 71, rfl⟩
abbrev main_indices : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_8 : Ref sig .tc := ⟨.hbm, 78, rfl⟩
abbrev main_v59 : Ref sig .tc := ⟨.hbm, 79, rfl⟩
abbrev main_c_9 : Ref sig .tc := ⟨.hbm, 80, rfl⟩
abbrev main_v60 : Ref sig .tc := ⟨.hbm, 81, rfl⟩
abbrev main_v61 : Ref sig .tc := ⟨.hbm, 82, rfl⟩
abbrev main_c_10 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_c_11 : Ref sig .tc := ⟨.hbm, 87, rfl⟩
abbrev main_v65 : Ref sig .tc := ⟨.hbm, 88, rfl⟩
abbrev main_v66 : Ref sig .tc := ⟨.hbm, 89, rfl⟩
abbrev main_c_12 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_c_13 : Ref sig .tc := ⟨.hbm, 94, rfl⟩
abbrev main_v70 : Ref sig .tc := ⟨.hbm, 95, rfl⟩
abbrev main_v71 : Ref sig .tc := ⟨.hbm, 96, rfl⟩
abbrev main_c_14 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_cst_15 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩

abbrev nD : Nat := 1
abbrev τ : Topo := Topo.v7x

variable {F : FTy → Type} [FloatOps F]
-- ==== Proof.Kernel.Frame.lean ====
module

public import proofs.«01_k».proof.Defs
public import proofs.«01_k».proof.Proof.Gen.Kernel.Frame
public import proofs.«01_k».proof.Proof.Gen.Kernel.Skeleton
public import Idealize.ShloMosaic.Lib.Pipeline.DatRel
public import Idealize.ShloMosaic.Lib.Pipeline.Value
public import Idealize.ShloMosaic.Lib.Tactic

/-! The kernel as printed, at the machine's floats: it runs, leaves its arguments as they were, and every counter at
zero. Nothing is said of what it computes, so the output's window and the scratch are followed only as buffers held. -/

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
set_option sl_exec.whnfOffsets true in
/-- The body of one grid step keeps its inputs and holds its output and its scratch at some contents. -/
theorem kernelRun (c : Dev nD) (i : grid0.Coords)
    (arg1 : Memref sig .tc .vmem S4x512x512 .f32) (harg1 : arg1.IsWhole)
    (arg2 : Memref sig .tc .vmem S4x512x512 .f32) (harg2 : arg2.IsWhole)
    (arg3 : Memref sig .tc .vmem S528x512 .bf16) (harg3 : arg3.IsWhole)
    (arg4 : Memref sig .tc .vmem S528x512 .bf16) (harg4 : arg4.IsWhole)
    (arg5 : Memref sig .tc .vmem S512x264 .bf16) (harg5 : arg5.IsWhole)
    (arg6 : Memref sig .tc .vmem S512x264 .bf16) (harg6 : arg6.IsWhole)
    (arg7 : Memref sig .tc .vmem S4x512x512 .f32) (harg7 : arg7.IsWhole)
    (arg8 : Memref sig .tc .vmem S2x4x528x512 .f32) (harg8 : arg8.IsWhole)
    (x1 : S4x512x512.Idx → Elt F .f32)
    (x2 : S4x512x512.Idx → Elt F .f32)
    (x3 : S528x512.Idx → Elt F .bf16)
    (x4 : S528x512.Idx → Elt F .bf16)
    (x5 : S512x264.Idx → Elt F .bf16)
    (x6 : S512x264.Idx → Elt F .bf16)
    (x7 : S4x512x512.Idx → Elt F .f32)
    (x8 : S2x4x528x512.Idx → Elt F .f32)
    (K : PUnit → sProp 𝕄) :
    iprop(owns (c : Thread nD τ) arg1 fullShare x1
        ∗ owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare x8
        ∗ (iprop(owns (c : Thread nD τ) arg1 fullShare x1
        ∗ owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ (∃ y, owns (c : Thread nD τ) arg7 fullShare y) ∗ (∃ y, owns (c : Thread nD τ) arg8 fullShare y)) -∗ K ⟨⟩))
      ⊢ wp frame (wpE (defs₀ (F := F)) Variants.none c none) Set.univ
          (cc0__fan_norm_kernel i arg1 harg1 arg2 harg2 arg3 harg3 arg4 harg4 arg5 harg5 arg6 harg6 arg7 harg7 arg8 harg8) K := by
  simp only [cc0__fan_norm_kernel_eq_skeleton]; unfold cc0__fan_norm_kernel_skel
  unfold owns
  iintro ⟨⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, Hk⟩
  sl_exec
  sl_step
  iapply Hk
  isplitl [H1]
  · iexists f1; isplitr; swap; · iexact H1
    ipureintro; exact h1
  isplitl [H2]
  · iexists f2; isplitr; swap; · iexact H2
    ipureintro; exact h2
  isplitl [H3]
  · iexists f3; isplitr; swap; · iexact H3
    ipureintro; exact h3
  isplitl [H4]
  · iexists f4; isplitr; swap; · iexact H4
    ipureintro; exact h4
  isplitl [H5]
  · iexists f5; isplitr; swap; · iexact H5
    ipureintro; exact h5
  isplitl [H6]
  · iexists f6; isplitr; swap; · iexact H6
    ipureintro; exact h6
  isplitl [H7]
  · iexists _; iexists _; isplitr; swap; · iexact H7
    ipureintro; rfl
  · iexists _; iexists _; isplitr; swap; · iexact H8
    ipureintro; rfl

variable (m : (ℓ : Loc nD τ sig) → Buf (Elt F) ℓ) (ρ : Dev nD → PrngReg)

/-- Only the output's window is forgotten. -/
def forgotten : Fin cfg0.W → Bool := fun w => w.val == 6

/-- Arrays as the region finds them; inputs left as they are. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => Pipeline.Dat.unnamed (cfg := cfg0) 6 t
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- What the body is called with, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ X, owns (c : Thread nD τ) (st0_6 t) fullShare X))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (∃ X, owns (c : Thread nD τ) (st0_6 t) fullShare X))

/-- The body at a step. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5,
    after0_0, after0_1, after0_2, after0_3, after0_4, after0_5]
  rw [show (dats m 0 c).owesAt () t.succ = (dats m 0 c).owesAt () t.castSucc from rfl,
    show (dats m 0 c).Φ t.castSucc = Pipeline.ΦA spec0 c from rfl,
    show (dats m 0 c).Φ t.succ = Pipeline.ΦA spec0 c from rfl]
  unfold Pipeline.ΦA
  rw [scopedRest0_eq]
  simp only [← owns_whole]
  iintro ⟨⟨⟨%ds, HS⟩, Hr⟩, HO, ⟨%d0, H0⟩, ⟨%d1, H1⟩, ⟨%d2, H2⟩, ⟨%d3, H3⟩, ⟨%d4, H4⟩, ⟨%d5, H5⟩, ⟨%Y, H6⟩⟩
  iapply (kernelRun c (grid0.coords t) _ _ _ _ _ _ _ _ _ _ _ _ _ _ _ _ (iblk m c 0 t) (iblk m c 1 t) (iblk m c 2 t)
    (iblk m c 3 t) (iblk m c 4 t) (iblk m c 5 t) Y ds _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS]; · iexact HS
  iintro ⟨H0, H1, H2, H3, H4, H5, H6, HS⟩
  isplitl [HS Hr]
  · isplitl [HS]; · iexact HS
    iexact Hr
  isplitl [HO]; · iexact HO
  isplitl [H0]; · iexact H0
  isplitl [H1]; · iexact H1
  isplitl [H2]; · iexact H2
  isplitl [H3]; · iexact H3
  isplitl [H4]; · iexact H4
  isplitl [H5]; · iexact H5
  iexact H6

/-- The body table's row at the step is the body. -/
theorem defs₀_row (t : Fin cfg0.N) : defs₀ (F := F) .tc cfg0.body (cfg0.bodyArgs t (cfg0.slots t)) = bodyAt0 t := by
  unfold defs₀; rw [Defs.onTc_tc]

/-- The library's body obligation, the output forgotten. -/
theorem body_obligation (c : Dev nD) :
    BodyObligationLoose (dats (F := F) m 0 c) (defs₀ (F := F)) Variants.none () Set.univ forgotten := fun t => by
  rw [bigSep_W0, bigSep_W0, defs₀_row]
  exact triple_restated (sound_body m c t) rfl .rfl fun _ => .rfl

set_option backward.isDefEq.respectTransparency.types false in
/-- From any memory with zero counters every weakly fair execution terminates, every counter at zero. -/
theorem run_main :
    θ_run defs (onTc (τ := τ) (main (F := F))) (s₀ m ρ)
      (fun r => Pipeline.RDat.FramePost (cfgs 0) (fun c => (dats m 0 c).toRForget forgotten) (V m) r ∧ r.2.sem = fun _ => 0) :=
  Pipeline.θ_run_frame_forget_shared (Q' := _) cfgs (dats m) (0 : Fin 1) launch₀0 defs₀ Variants.none forgotten m ρ main
    (hbody := body_obligation m) (hq := fun _ _ _ => rfl)
    (howed := fun _ _ => rfl) (V := V m) (hmain := hmain m Variants.none) (hA := A_eq m)
    (hΦ := fun _ _ => rfl)

/-- The frame of the kernel as printed. -/
theorem quiescent : Cert.quiescent_Kernel := fun m ρ _ =>
  (θ_run defs _ _).mono (fun r h => ⟨fun c => ⟨
      (h.1.arr_in c 1 rfl).trans ((A_eq m c 1).trans (V_main_arg0 m c)),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c)⟩, h.2⟩)
    (run_main m ρ)

end Cert.Kernel.Hand

end
-- ==== Proof.KernelIdeal.Batch.lean ====
module

public import proofs.«01_k».proof.Proof.Gen.KernelIdeal
public import proofs.«01_k».proof.Proof.Gen.KernelIdeal.Skeleton

@[expose] public section

/-! # What the kernel computes of one batch entry

The kernel's body handles four batch entries one after the other by the same text. Here that text is
stated once, as functions of arrays: `spectrum` (the transform stored in the scratch), `columns` (the
comparator network), `popped` (the rounds of the selection) and `filtered` (the entry's output). -/

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

/-- The transform of one entry: the split table times the split entry, as the scratch holds it. -/
def spectrum (hi lo : Vec F S528x512 .bf16) (x : Vec F S1x512x512 .f32) : FVec F S1x1x528x512 .f32 :=
  k0_pay4 hi lo x

/-- The four sorted rows of the selection. -/
structure Rows (F : FTy → Type) where
  a : FVec F S66x512 .f32
  b : FVec F S66x512 .f32
  c : FVec F S66x512 .f32
  d : FVec F S66x512 .f32

/-- The real (cosine) half of a spectrum. -/
def cosPart (ab : Vec F S1x1x528x512 .f32) : FVec F S264x512 .f32 :=
  extractStridedSlice S264x512 ![0, 0] (shapeCast S528x512 ab shapeCasts_S1x1x528x512_S528x512)
    slices_S528x512_o0_0_S264x512

/-- The imaginary (sine) half of a spectrum. -/
def sinPart (ab : Vec F S1x1x528x512 .f32) : FVec F S264x512 .f32 :=
  extractStridedSlice S264x512 ![264, 0] (shapeCast S528x512 ab shapeCasts_S1x1x528x512_S528x512)
    slices_S528x512_o264_0_S264x512

/-- The squared magnitudes. -/
def power (ab : Vec F S1x1x528x512 .f32) : FVec F S264x512 .f32 :=
  addf (mulf (cosPart ab) (cosPart ab)) (mulf (sinPart ab) (sinPart ab))

/-- Upper and lower half of the squared magnitudes' rows. -/
def upper (p : FVec F S264x512 .f32) : FVec F S132x512 .f32 :=
  extractStridedSlice S132x512 ![0, 0] p slices_S264x512_o0_0_S132x512
def lower (p : FVec F S264x512 .f32) : FVec F S132x512 .f32 :=
  extractStridedSlice S132x512 ![132, 0] p slices_S264x512_o132_0_S132x512
/-- First and second quarter of one half. -/
def first (p : FVec F S132x512 .f32) : FVec F S66x512 .f32 :=
  extractStridedSlice S66x512 ![0, 0] p slices_S132x512_o0_0_S66x512
def second (p : FVec F S132x512 .f32) : FVec F S66x512 .f32 :=
  extractStridedSlice S66x512 ![66, 0] p slices_S132x512_o66_0_S66x512

/-- The comparator network. -/
def columns (p : FVec F S264x512 .f32) : Rows F :=
  let h := maximumf (upper p) (lower p)
  let l := minimumf (upper p) (lower p)
  let u := minimumf (first h) (second h)
  let v := maximumf (first l) (second l)
  ⟨maximumf (first h) (second h), maximumf u v, minimumf u v, minimumf (first l) (second l)⟩

/-- The largest entry of each lane. -/
def laneTop (s : FVec F S66x512 .f32) : FVec F S1x512 .f32 :=
  shapeCast S1x512 (multiReduction .maximumf [0] S512 s 0xFF800000#32 reduces_S66x512_S512 (.inl rfl) rfl)
    shapeCasts_S512_S1x512

/-- Where the top row holds the lane's largest entry. -/
def hit (s : FVec F S66x512 .f32) : IVec S66x512 1 :=
  cmpf .oeq s (broadcastTo S66x512 (laneTop s) broadcasts_S1x512_S66x512)

/-- One round: the hit columns move up. -/
def pop (s : Rows F) : Rows F :=
  ⟨select (hit s.a) s.b s.a, select (hit s.a) s.c s.b, select (hit s.a) s.d s.c,
    select (hit s.a) (broadcast S66x512 (Scalar.ofBits .f32 0xBF800000#32)) s.d⟩

/-- The rows after `n` rounds. -/
def popped (s : Rows F) : Nat → Rows F
  | 0 => s
  | n + 1 => pop (popped s n)

/-- The frequencies kept: those not below the twentieth removed value. -/
def kept (p : FVec F S264x512 .f32) : IVec S264x512 1 :=
  cmpf .oge p (broadcastTo S264x512 (laneTop (popped (columns p) 19).a) broadcasts_S1x512_S264x512)

/-- The kept part of one half of the spectrum. -/
def masked (k : IVec S264x512 1) (s : FVec F S264x512 .f32) : FVec F S264x512 .bf16 :=
  truncf .bf16 (select k s (broadcast S264x512 (Scalar.ofBits .f32 0x00000000#32))) bitsLt_bf16_f32

/-- One half of the inverse transform. -/
def inverse (r : Vec F S512x264 .bf16) (s : FVec F S264x512 .bf16) : FVec F S512x512 .f32 :=
  matmul dot_S512x264_S264x512_S512x512_1_0_0_1_n_n none
    (shapeCast S512x264 r shapeCasts_S512x264_S512x264) s (constant S512x512 .f32 0x00000000#32)

/-- The entry's output: the entry less the inverse transform of its kept spectrum. -/
def filtered (ab : Vec F S1x1x528x512 .f32) (rr ri : Vec F S512x264 .bf16)
    (x : Vec F S1x512x512 .f32) : FVec F S1x512x512 .f32 :=
  shapeCast S1x512x512
    (subf (shapeCast S512x512 x shapeCasts_S1x512x512_S512x512)
      (addf (inverse rr (masked (kept (power ab)) (cosPart ab)))
        (inverse ri (masked (kept (power ab)) (sinPart ab)))))
    shapeCasts_S512x512_S1x512x512

end Cert.KernelIdeal.Hand

end
-- ==== Proof.KernelIdeal.Block.lean ====
module

public import proofs.«01_k».proof.Proof.Gen.KernelIdeal.Frame
public import proofs.«01_k».proof.Proof.Gen.KernelIdeal.Skeleton
public import proofs.«01_k».proof.Proof.KernelIdeal.Batch
public import Idealize.ShloMosaic.Lib.Pipeline.DatRel
public import Idealize.ShloMosaic.Lib.Pipeline.Value
public import Idealize.ShloMosaic.Lib.Tactic
public import Idealize.ShloMosaic.Lib.Pointwise

/-! What one grid step does to its buffers. The step transforms the four entries of its first input into
one half of the scratch, and turns the transforms the other half holds, with the entries of its second
input, into the four entries of its output block. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- One entry of a block of four. -/
def entry (g : Fin 4) (x : S4x512x512.Idx → Elt F .f32) : Vec F S1x512x512 .f32 :=
  fun y => x (ix3 g (y 1) (y 2))

/-- One transform held by the scratch: half `b`, entry `g`. -/
def stored (b : Fin 2) (g : Fin 4) (d : S2x4x528x512.Idx → Elt F .f32) : Vec F S1x1x528x512 .f32 :=
  fun y => d (ix4 b g (y 2) (y 3))

/-- The half of the scratch that a step of this number writes. -/
def half (n : ℕ) : Fin 2 := ⟨n % 2, Nat.mod_lt _ (by decide)⟩

/-- The output block made of the transforms in half `b` of the scratch. -/
def outBlock (b : Fin 2) (d : S2x4x528x512.Idx → Elt F .f32) (x2 : S4x512x512.Idx → Elt F .f32)
    (x5 x6 : S512x264.Idx → Elt F .bf16) : S4x512x512.Idx → Elt F .f32 :=
  fun y => filtered (stored b (y 0) d) x5 x6 (entry (y 0) x2) (ix3 0 (y 1) (y 2))

/-- The scratch after half `b` is filled with the transforms of a block. -/
def filled (b : Fin 2) (x1 : S4x512x512.Idx → Elt F .f32) (x3 x4 : S528x512.Idx → Elt F .bf16)
    (d : S2x4x528x512.Idx → Elt F .f32) : S2x4x528x512.Idx → Elt F .f32 :=
  fun y => if (y 0).val = b.val then spectrum x3 x4 (entry (y 1) x1) (ix4 0 0 (y 2) (y 3)) else d y

/-- A load of one whole entry of a block. -/
theorem ld_entry (g : Fin 4) (x : S4x512x512.Idx → Elt F .f32) (inb) :
    View.ld (Val := Elt F) x (Rect.unit (s := S4x512x512) ![g.val, 0, 0] S1x512x512.size inb) = entry g x := by
  funext y
  refine congrArg x (funext fun a => Fin.ext ?_)
  have h0 : (y 0).val = 0 := Nat.lt_one_iff.mp (y 0).isLt
  match a with
  | ⟨0, _⟩ => show g.val + 1 * (y 0).val = g.val; omega
  | ⟨1, _⟩ => show 0 + 1 * (y 1).val = (y 1).val; omega
  | ⟨2, _⟩ => show 0 + 1 * (y 2).val = (y 2).val; omega

/-- A load of one transform of the scratch, at offsets that come to half `b` and entry `g`. -/
theorem ld_stored (b : Fin 2) (g : Fin 4) (d : S2x4x528x512.Idx → Elt F .f32) (off : Fin 4 → ℕ)
    (hoff : off = ![b.val, g.val, 0, 0]) (inb) :
    View.ld (Val := Elt F) d (Rect.unit (s := S2x4x528x512) off S1x1x528x512.size inb) = stored b g d := by
  subst hoff
  funext y
  refine congrArg d (funext fun a => Fin.ext ?_)
  have h0 : (y 0).val = 0 := Nat.lt_one_iff.mp (y 0).isLt
  have h1 : (y 1).val = 0 := Nat.lt_one_iff.mp (y 1).isLt
  match a with
  | ⟨0, _⟩ => show b.val + 1 * (y 0).val = b.val; omega
  | ⟨1, _⟩ => show g.val + 1 * (y 1).val = g.val; omega
  | ⟨2, _⟩ => show 0 + 1 * (y 2).val = (y 2).val; omega
  | ⟨3, _⟩ => show 0 + 1 * (y 3).val = (y 3).val; omega

/-- A place of the scratch outside one transform's rectangle, told by its half or its entry. -/
theorem not_mem_stored (y : S2x4x528x512.Idx) (off : Fin 4 → ℕ) (b g : ℕ) (hoff : off = ![b, g, 0, 0]) (inb)
    (h : (y 0).val ≠ b ∨ (y 1).val ≠ g) :
    y ∉ (Rect.unit (s := S2x4x528x512) off S1x1x528x512.size inb).set := by
  subst hoff
  rcases h with h | h
  · exact Rect.not_mem_set_of_axis _ y 0 b 1 rfl rfl rfl (by omega)
  · exact Rect.not_mem_set_of_axis _ y 1 g 1 rfl rfl rfl (by omega)

/-- A place of the scratch inside one transform's rectangle. -/
theorem emb_stored (y : S2x4x528x512.Idx) (off : Fin 4 → ℕ) (b g : ℕ) (hoff : off = ![b, g, 0, 0]) (inb)
    (hb : (y 0).val = b) (hg : (y 1).val = g) :
    (Rect.unit (s := S2x4x528x512) off S1x1x528x512.size inb).emb (ix4 0 0 (y 2) (y 3) : S1x1x528x512.Idx) = y := by
  subst hoff
  refine Rect.emb_eq_of_coords _ _ _ fun a => ?_
  match a with
  | ⟨0, _⟩ => show (y 0).val = b + 1 * 0; omega
  | ⟨1, _⟩ => show (y 1).val = g + 1 * 0; omega
  | ⟨2, _⟩ => show (y 2).val = 0 + 1 * (y 2).val; omega
  | ⟨3, _⟩ => show (y 3).val = 0 + 1 * (y 3).val; omega

/-- A place of an output block inside one entry's rectangle, and outside of it. -/
theorem emb_entry (y : S4x512x512.Idx) (g : ℕ) (inb) (hg : (y 0).val = g) :
    (Rect.unit (s := S4x512x512) ![g, 0, 0] S1x512x512.size inb).emb (ix3 0 (y 1) (y 2) : S1x512x512.Idx) = y := by
  refine Rect.emb_eq_of_coords _ _ _ fun a => ?_
  match a with
  | ⟨0, _⟩ => show (y 0).val = g + 1 * 0; omega
  | ⟨1, _⟩ => show (y 1).val = 0 + 1 * (y 1).val; omega
  | ⟨2, _⟩ => show (y 2).val = 0 + 1 * (y 2).val; omega
theorem not_mem_entry (y : S4x512x512.Idx) (g : ℕ) (inb) (h : (y 0).val ≠ g) :
    y ∉ (Rect.unit (s := S4x512x512) ![g, 0, 0] S1x512x512.size inb).set :=
  Rect.not_mem_set_of_axis _ y 0 g 1 rfl rfl rfl (by omega)

/-- What a list of stores leaves at a place, its newest store one entry of a block. -/
theorem read_entry_cons (v : View sig .tc .vmem S4x512x512 .f32) (f : v.ty.Contents (Elt F)) (g : ℕ) (inb)
    (p : Vec F S1x512x512 .f32) (L : List (View.Piece (Elt F) S4x512x512 .f32)) (y : S4x512x512.Idx) :
    v.read (Elt F) (v.writes (Elt F) f (⟨Rect.unit (s := S4x512x512) ![g, 0, 0] S1x512x512.size inb, p⟩ :: L)) y
      = if (y 0).val = g then p (ix3 0 (y 1) (y 2)) else v.read (Elt F) (v.writes (Elt F) f L) y := by
  split
  · next h =>
    exact View.read_writes_cons_hit v f (Rect.unit (s := S4x512x512) ![g, 0, 0] S1x512x512.size inb) p L
      (ix3 0 (y 1) (y 2) : S1x512x512.Idx) y (emb_entry y g inb h)
  · next h => exact View.read_writes_cons_miss v f _ L y (not_mem_entry y g inb h)

/-- What a list of stores leaves at a place, its newest store one transform of the scratch. -/
theorem read_stored_cons (v : View sig .tc .vmem S2x4x528x512 .f32) (f : v.ty.Contents (Elt F)) (off : Fin 4 → ℕ)
    (b g : ℕ) (hoff : off = ![b, g, 0, 0]) (inb)
    (p : Vec F S1x1x528x512 .f32) (L : List (View.Piece (Elt F) S2x4x528x512 .f32)) (y : S2x4x528x512.Idx) :
    v.read (Elt F) (v.writes (Elt F) f (⟨Rect.unit (s := S2x4x528x512) off S1x1x528x512.size inb, p⟩ :: L)) y
      = if (y 0).val = b ∧ (y 1).val = g then p (ix4 0 0 (y 2) (y 3))
        else v.read (Elt F) (v.writes (Elt F) f L) y := by
  split
  · next h =>
    exact View.read_writes_cons_hit v f (Rect.unit (s := S2x4x528x512) off S1x1x528x512.size inb) p L
      (ix4 0 0 (y 2) (y 3) : S1x1x528x512.Idx) y (emb_stored y off b g hoff inb h.1 h.2)
  · next h =>
    refine View.read_writes_cons_miss v f _ L y (not_mem_stored y off b g hoff inb ?_)
    by_cases hb : (y 0).val = b
    · exact .inr fun hg => h ⟨hb, hg⟩
    · exact .inl hb

/-- Four stores of one entry each leave the block they are the entries of. -/
theorem read_entries (v : View sig .tc .vmem S4x512x512 .f32) (f : v.ty.Contents (Elt F))
    (p0 p1 p2 p3 : Vec F S1x512x512 .f32) (i0 i1 i2 i3) (G : S4x512x512.Idx → Elt F .f32)
    (h0 : p0 = entry 0 G) (h1 : p1 = entry 1 G) (h2 : p2 = entry 2 G) (h3 : p3 = entry 3 G) :
    v.read (Elt F) (v.writes (Elt F) f
      [⟨Rect.unit (s := S4x512x512) ![3, 0, 0] S1x512x512.size i3, p3⟩,
       ⟨Rect.unit (s := S4x512x512) ![2, 0, 0] S1x512x512.size i2, p2⟩,
       ⟨Rect.unit (s := S4x512x512) ![1, 0, 0] S1x512x512.size i1, p1⟩,
       ⟨Rect.unit (s := S4x512x512) ![0, 0, 0] S1x512x512.size i0, p0⟩]) = G := by
  funext y
  have hy : (y 0).val < 4 := (y 0).isLt
  have key : ∀ (g : Fin 4) (p : Vec F S1x512x512 .f32), p = entry g G → (y 0).val = g.val →
      p (ix3 0 (y 1) (y 2)) = G y := fun g p hp hg => by
    subst hp
    show G _ = G y
    refine congrArg G (funext fun a => Fin.ext ?_)
    match a with
    | ⟨0, _⟩ => exact hg.symm
    | ⟨1, _⟩ => rfl
    | ⟨2, _⟩ => rfl
  rw [read_entry_cons, read_entry_cons, read_entry_cons, read_entry_cons]
  split
  · next e => exact key 3 p3 h3 e
  split
  · next e => exact key 2 p2 h2 e
  split
  · next e => exact key 1 p1 h1 e
  split
  · next e => exact key 0 p0 h0 e
  omega

/-- Four stores of one transform each fill one half of the scratch. -/
theorem read_filled (v : View sig .tc .vmem S2x4x528x512 .f32) (f : v.ty.Contents (Elt F))
    (p0 p1 p2 p3 : Vec F S1x1x528x512 .f32) (o0 o1 o2 o3 : Fin 4 → ℕ) (i0 i1 i2 i3) (b : Fin 2)
    (ho0 : o0 = ![b.val, 0, 0, 0]) (ho1 : o1 = ![b.val, 1, 0, 0]) (ho2 : o2 = ![b.val, 2, 0, 0])
    (ho3 : o3 = ![b.val, 3, 0, 0])
    (x1 : S4x512x512.Idx → Elt F .f32) (x3 x4 : S528x512.Idx → Elt F .bf16)
    (h0 : p0 = spectrum x3 x4 (entry 0 x1)) (h1 : p1 = spectrum x3 x4 (entry 1 x1))
    (h2 : p2 = spectrum x3 x4 (entry 2 x1)) (h3 : p3 = spectrum x3 x4 (entry 3 x1)) :
    v.read (Elt F) (v.writes (Elt F) f
      [⟨Rect.unit (s := S2x4x528x512) o3 S1x1x528x512.size i3, p3⟩,
       ⟨Rect.unit (s := S2x4x528x512) o2 S1x1x528x512.size i2, p2⟩,
       ⟨Rect.unit (s := S2x4x528x512) o1 S1x1x528x512.size i1, p1⟩,
       ⟨Rect.unit (s := S2x4x528x512) o0 S1x1x528x512.size i0, p0⟩])
      = filled b x1 x3 x4 (v.read (Elt F) f) := by
  funext y
  have hy : (y 1).val < 4 := (y 1).isLt
  rw [read_stored_cons v f o3 b.val 3 ho3, read_stored_cons v f o2 b.val 2 ho2,
    read_stored_cons v f o1 b.val 1 ho1, read_stored_cons v f o0 b.val 0 ho0]
  unfold filled
  by_cases hb : (y 0).val = b.val
  · have key : ∀ (g : Fin 4) (p : Vec F S1x1x528x512 .f32), p = spectrum x3 x4 (entry g x1) → (y 1).val = g.val →
        p (ix4 0 0 (y 2) (y 3)) = spectrum x3 x4 (entry (y 1) x1) (ix4 0 0 (y 2) (y 3)) := fun g p hp hg => by
      subst hp
      rw [show y 1 = g from Fin.ext hg]
    rw [if_pos hb]
    split
    · next e => exact key 3 p3 h3 e.2
    split
    · next e => exact key 2 p2 h2 e.2
    split
    · next e => exact key 1 p1 h1 e.2
    split
    · next e => exact key 0 p0 h0 e.2
    omega
  · rw [if_neg fun h => hb h.1, if_neg fun h => hb h.1, if_neg fun h => hb h.1, if_neg fun h => hb h.1, if_neg hb]
    rfl

/-- The other half of the scratch is unchanged by filling one. -/
theorem stored_filled (b b' : Fin 2) (hne : b' ≠ b) (g : Fin 4) (x1 : S4x512x512.Idx → Elt F .f32)
    (x3 x4 : S528x512.Idx → Elt F .bf16) (d : S2x4x528x512.Idx → Elt F .f32) :
    stored b' g (filled b x1 x3 x4 d) = stored b' g d := by
  funext y
  exact if_neg fun h => hne (Fin.ext h)

/-- What filling one half leaves there. -/
theorem stored_filled_self (b : Fin 2) (g : Fin 4) (x1 : S4x512x512.Idx → Elt F .f32)
    (x3 x4 : S528x512.Idx → Elt F .bf16) (d : S2x4x528x512.Idx → Elt F .f32) :
    stored b g (filled b x1 x3 x4 d) = spectrum x3 x4 (entry g x1) := by
  funext y
  refine (if_pos rfl).trans ?_
  refine congrArg (spectrum x3 x4 (entry g x1)) (funext fun a => Fin.ext ?_)
  have h0 : (y 0).val = 0 := Nat.lt_one_iff.mp (y 0).isLt
  have h1 : (y 1).val = 0 := Nat.lt_one_iff.mp (y 1).isLt
  match a with
  | ⟨0, _⟩ => exact h0.symm
  | ⟨1, _⟩ => exact h1.symm
  | ⟨2, _⟩ => rfl
  | ⟨3, _⟩ => rfl

theorem half_succ_ne (n : ℕ) : half (n + 1) ≠ half n := fun h => by
  have := congrArg Fin.val h
  simp only [half] at this
  omega

/-- An output block's entry. -/
theorem entry_outBlock (g : Fin 4) (b : Fin 2) (d : S2x4x528x512.Idx → Elt F .f32) (x2 : S4x512x512.Idx → Elt F .f32)
    (x5 x6 : S512x264.Idx → Elt F .bf16) :
    entry g (outBlock b d x2 x5 x6) = filtered (stored b g d) x5 x6 (entry g x2) := by
  funext y
  show filtered (stored b g d) x5 x6 (entry g x2) (ix3 0 (y 1) (y 2)) = _
  refine congrArg (filtered (stored b g d) x5 x6 (entry g x2)) (funext fun a => Fin.ext ?_)
  have h0 : (y 0).val = 0 := Nat.lt_one_iff.mp (y 0).isLt
  match a with
  | ⟨0, _⟩ => exact h0.symm
  | ⟨1, _⟩ => rfl
  | ⟨2, _⟩ => rfl

end Cert.KernelIdeal.Hand

end
-- ==== Proof.KernelIdeal.Body.lean ====
module

public import proofs.«01_k».proof.Proof.Gen.KernelIdeal.Frame
public import proofs.«01_k».proof.Proof.Gen.KernelIdeal.Skeleton
public import proofs.«01_k».proof.Proof.KernelIdeal.Block
public import Idealize.ShloMosaic.Lib.Pipeline.DatRel
public import Idealize.ShloMosaic.Lib.Pipeline.Value
public import Idealize.ShloMosaic.Lib.Tactic
public import Idealize.ShloMosaic.Lib.Pointwise

/-! The body of one grid step: it leaves its six inputs as they are, its output block made of the transforms the
other half of the scratch holds, and this step's half of the scratch filled with the transforms of its first input. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
set_option sl_exec.whnfOffsets true in
theorem kernelRun (c : Dev nD) (i : grid0.Coords)
    (arg1 : Memref sig .tc .vmem S4x512x512 .f32) (harg1 : arg1.IsWhole)
    (arg2 : Memref sig .tc .vmem S4x512x512 .f32) (harg2 : arg2.IsWhole)
    (arg3 : Memref sig .tc .vmem S528x512 .bf16) (harg3 : arg3.IsWhole)
    (arg4 : Memref sig .tc .vmem S528x512 .bf16) (harg4 : arg4.IsWhole)
    (arg5 : Memref sig .tc .vmem S512x264 .bf16) (harg5 : arg5.IsWhole)
    (arg6 : Memref sig .tc .vmem S512x264 .bf16) (harg6 : arg6.IsWhole)
    (arg7 : Memref sig .tc .vmem S4x512x512 .f32) (harg7 : arg7.IsWhole)
    (arg8 : Memref sig .tc .vmem S2x4x528x512 .f32) (harg8 : arg8.IsWhole)
    (x1 : S4x512x512.Idx → Elt F .f32) (x2 : S4x512x512.Idx → Elt F .f32)
    (x3 x4 : S528x512.Idx → Elt F .bf16) (x5 x6 : S512x264.Idx → Elt F .bf16)
    (d7 : S4x512x512.Idx → Elt F .f32) (d8 : S2x4x528x512.Idx → Elt F .f32) (K : PUnit → sProp 𝕄) :
    iprop(owns (c : Thread nD τ) arg1 fullShare x1 ∗ owns (c : Thread nD τ) arg2 fullShare x2
        ∗ owns (c : Thread nD τ) arg3 fullShare x3 ∗ owns (c : Thread nD τ) arg4 fullShare x4
        ∗ owns (c : Thread nD τ) arg5 fullShare x5 ∗ owns (c : Thread nD τ) arg6 fullShare x6
        ∗ owns (c : Thread nD τ) arg7 fullShare d7 ∗ owns (c : Thread nD τ) arg8 fullShare d8
        ∗ (iprop(owns (c : Thread nD τ) arg1 fullShare x1 ∗ owns (c : Thread nD τ) arg2 fullShare x2
        ∗ owns (c : Thread nD τ) arg3 fullShare x3 ∗ owns (c : Thread nD τ) arg4 fullShare x4
        ∗ owns (c : Thread nD τ) arg5 fullShare x5 ∗ owns (c : Thread nD τ) arg6 fullShare x6
        ∗ owns (c : Thread nD τ) arg7 fullShare (outBlock (half ((i 0).val + 1)) d8 x2 x5 x6)
        ∗ owns (c : Thread nD τ) arg8 fullShare (filled (half (i 0).val) x1 x3 x4 d8)) -∗ K ⟨⟩))
      ⊢ wp frame (wpE (defs₀ (F := F)) Variants.none c none) Set.univ
          (cc0__fan_norm_kernel i arg1 harg1 arg2 harg2 arg3 harg3 arg4 harg4 arg5 harg5 arg6 harg6 arg7 harg7 arg8 harg8) K := by
  simp only [cc0__fan_norm_kernel_eq_skeleton]; unfold cc0__fan_norm_kernel_skel
  unfold owns
  iintro ⟨⟨%f1, %h1, H1⟩, ⟨%f2, %h2, H2⟩, ⟨%f3, %h3, H3⟩, ⟨%f4, %h4, H4⟩, ⟨%f5, %h5, H5⟩, ⟨%f6, %h6, H6⟩,
    ⟨%f7, %h7, H7⟩, ⟨%f8, %h8, H8⟩, Hk⟩
  sl_exec
  sl_step
  iapply Hk
  have hx2_0 : View.readAt (Elt F) arg2.view
      (Rect.unit (s := S4x512x512) ![0, 0, 0] S1x512x512.size inb_S4x512x512_S1x512x512_0_0_0).toLoadRect f2 = entry 0 x2 := by
    rw [View.readAt_eq_ld, h2]; exact ld_entry 0 x2 _
  have hx1_0 : View.readAt (Elt F) arg1.view
      (Rect.unit (s := S4x512x512) ![0, 0, 0] S1x512x512.size inb_S4x512x512_S1x512x512_0_0_0).toLoadRect f1 = entry 0 x1 := by
    rw [View.readAt_eq_ld, h1]; exact ld_entry 0 x1 _
  have hx2_1 : View.readAt (Elt F) arg2.view
      (Rect.unit (s := S4x512x512) ![1, 0, 0] S1x512x512.size inb_S4x512x512_S1x512x512_1_0_0).toLoadRect f2 = entry 1 x2 := by
    rw [View.readAt_eq_ld, h2]; exact ld_entry 1 x2 _
  have hx1_1 : View.readAt (Elt F) arg1.view
      (Rect.unit (s := S4x512x512) ![1, 0, 0] S1x512x512.size inb_S4x512x512_S1x512x512_1_0_0).toLoadRect f1 = entry 1 x1 := by
    rw [View.readAt_eq_ld, h1]; exact ld_entry 1 x1 _
  have hx2_2 : View.readAt (Elt F) arg2.view
      (Rect.unit (s := S4x512x512) ![2, 0, 0] S1x512x512.size inb_S4x512x512_S1x512x512_2_0_0).toLoadRect f2 = entry 2 x2 := by
    rw [View.readAt_eq_ld, h2]; exact ld_entry 2 x2 _
  have hx1_2 : View.readAt (Elt F) arg1.view
      (Rect.unit (s := S4x512x512) ![2, 0, 0] S1x512x512.size inb_S4x512x512_S1x512x512_2_0_0).toLoadRect f1 = entry 2 x1 := by
    rw [View.readAt_eq_ld, h1]; exact ld_entry 2 x1 _
  have hx2_3 : View.readAt (Elt F) arg2.view
      (Rect.unit (s := S4x512x512) ![3, 0, 0] S1x512x512.size inb_S4x512x512_S1x512x512_3_0_0).toLoadRect f2 = entry 3 x2 := by
    rw [View.readAt_eq_ld, h2]; exact ld_entry 3 x2 _
  have hx1_3 : View.readAt (Elt F) arg1.view
      (Rect.unit (s := S4x512x512) ![3, 0, 0] S1x512x512.size inb_S4x512x512_S1x512x512_3_0_0).toLoadRect f1 = entry 3 x1 := by
    rw [View.readAt_eq_ld, h1]; exact ld_entry 3 x1 _
  have hx3 : View.readAt (Elt F) arg3.view
      (Rect.unit (s := S528x512) ![0, 0] S528x512.size inb_S528x512_S528x512_0_0).toLoadRect f3 = x3 := by
    rw [View.readAt_eq_ld, h3]; exact View.ld_unit_zero (by funext a; fin_cases a <;> rfl) _ x3
  have hx4 : View.readAt (Elt F) arg4.view
      (Rect.unit (s := S528x512) ![0, 0] S528x512.size inb_S528x512_S528x512_0_0).toLoadRect f4 = x4 := by
    rw [View.readAt_eq_ld, h4]; exact View.ld_unit_zero (by funext a; fin_cases a <;> rfl) _ x4
  have hx5 : View.readAt (Elt F) arg5.view
      (Rect.unit (s := S512x264) ![0, 0] S512x264.size inb_S512x264_S512x264_0_0).toLoadRect f5 = x5 := by
    rw [View.readAt_eq_ld, h5]; exact View.ld_unit_zero (by funext a; fin_cases a <;> rfl) _ x5
  have hx6 : View.readAt (Elt F) arg6.view
      (Rect.unit (s := S512x264) ![0, 0] S512x264.size inb_S512x264_S512x264_0_0).toLoadRect f6 = x6 := by
    rw [View.readAt_eq_ld, h6]; exact View.ld_unit_zero (by funext a; fin_cases a <;> rfl) _ x6
  have hf : View.read (Elt F) arg8.view (arg8.view.writes (Elt F) f8 (kernelRun.sl.H8_4 c i arg1 arg3 arg4 f1 f3 f4))
      = filled (half (i 0).val) x1 x3 x4 d8 := by
    subst h8
    refine read_filled arg8.view f8 _ _ _ _ (k0_off1 i) (k0_off2 i) (k0_off3 i) (k0_off4 i) _ _ _ _ (half (i 0).val)
      (k0_off1_eq i) (k0_off2_eq i) (k0_off3_eq i) (k0_off4_eq i) x1 x3 x4 ?_ ?_ ?_ ?_
    · rw [← hx3, ← hx4, ← hx1_0]; rfl
    · rw [← hx3, ← hx4, ← hx1_1]; rfl
    · rw [← hx3, ← hx4, ← hx1_2]; rfl
    · rw [← hx3, ← hx4, ← hx1_3]; rfl
  have hab_0 : View.readAt (Elt F) arg8.view
      (Rect.unit (s := S2x4x528x512) (k0_off5 i) S1x1x528x512.size (k0_off5_inb i)).toLoadRect
      (arg8.view.writes (Elt F) f8 (kernelRun.sl.H8_4 c i arg1 arg3 arg4 f1 f3 f4)) = stored (half ((i 0).val + 1)) 0 d8 := by
    rw [View.readAt_eq_ld, hf]
    exact (ld_stored (half ((i 0).val + 1)) 0 _ _ (k0_off5_eq i) _).trans (stored_filled _ _ (half_succ_ne _) _ _ _ _ _)
  have hab_1 : View.readAt (Elt F) arg8.view
      (Rect.unit (s := S2x4x528x512) (k0_off6 i) S1x1x528x512.size (k0_off6_inb i)).toLoadRect
      (arg8.view.writes (Elt F) f8 (kernelRun.sl.H8_4 c i arg1 arg3 arg4 f1 f3 f4)) = stored (half ((i 0).val + 1)) 1 d8 := by
    rw [View.readAt_eq_ld, hf]
    exact (ld_stored (half ((i 0).val + 1)) 1 _ _ (k0_off6_eq i) _).trans (stored_filled _ _ (half_succ_ne _) _ _ _ _ _)
  have hab_2 : View.readAt (Elt F) arg8.view
      (Rect.unit (s := S2x4x528x512) (k0_off7 i) S1x1x528x512.size (k0_off7_inb i)).toLoadRect
      (arg8.view.writes (Elt F) f8 (kernelRun.sl.H8_4 c i arg1 arg3 arg4 f1 f3 f4)) = stored (half ((i 0).val + 1)) 2 d8 := by
    rw [View.readAt_eq_ld, hf]
    exact (ld_stored (half ((i 0).val + 1)) 2 _ _ (k0_off7_eq i) _).trans (stored_filled _ _ (half_succ_ne _) _ _ _ _ _)
  have hab_3 : View.readAt (Elt F) arg8.view
      (Rect.unit (s := S2x4x528x512) (k0_off8 i) S1x1x528x512.size (k0_off8_inb i)).toLoadRect
      (arg8.view.writes (Elt F) f8 (kernelRun.sl.H8_4 c i arg1 arg3 arg4 f1 f3 f4)) = stored (half ((i 0).val + 1)) 3 d8 := by
    rw [View.readAt_eq_ld, hf]
    exact (ld_stored (half ((i 0).val + 1)) 3 _ _ (k0_off8_eq i) _).trans (stored_filled _ _ (half_succ_ne _) _ _ _ _ _)
  isplitl [H1]
  · iexists f1; isplitr; swap; · iexact H1
    ipureintro; exact h1
  isplitl [H2]
  · iexists f2; isplitr; swap; · iexact H2
    ipureintro; exact h2
  isplitl [H3]
  · iexists f3; isplitr; swap; · iexact H3
    ipureintro; exact h3
  isplitl [H4]
  · iexists f4; isplitr; swap; · iexact H4
    ipureintro; exact h4
  isplitl [H5]
  · iexists f5; isplitr; swap; · iexact H5
    ipureintro; exact h5
  isplitl [H6]
  · iexists f6; isplitr; swap; · iexact H6
    ipureintro; exact h6
  isplitl [H7]
  · iexists _; isplitr; swap; · iexact H7
    ipureintro
    refine read_entries arg7.view f7 _ _ _ _ _ _ _ _ _ ?_ ?_ ?_ ?_
    · rw [entry_outBlock, ← hab_0, ← hx5, ← hx6, ← hx2_0]; rfl
    · rw [entry_outBlock, ← hab_1, ← hx5, ← hx6, ← hx2_1]; rfl
    · rw [entry_outBlock, ← hab_2, ← hx5, ← hx6, ← hx2_2]; rfl
    · rw [entry_outBlock, ← hab_3, ← hx5, ← hx6, ← hx2_3]; rfl
  · iexists _; isplitr; swap; · iexact H8
    ipureintro; exact hf

end Cert.KernelIdeal.Hand

end
-- ==== Proof.KernelIdeal.Run.lean ====
module

public import proofs.«01_k».proof.Proof.Gen.KernelIdeal.Frame
public import proofs.«01_k».proof.Proof.Gen.KernelIdeal.Skeleton
public import proofs.«01_k».proof.Proof.KernelIdeal.Body
public import Idealize.ShloMosaic.Lib.Pipeline.ArrRel
public import Idealize.ShloMosaic.Lib.Pipeline.DatRel
public import Idealize.ShloMosaic.Lib.Pipeline.Value
public import Idealize.ShloMosaic.Lib.Tactic
public import Idealize.ShloMosaic.Lib.Pointwise

/-! The run of the whole grid. Between two steps the scratch's freshly written half holds the transforms of the block the
step before read; so each step after the first leaves its output block made of the entries of one block and of their
transforms. What the first step leaves is never written back. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The step's number is its grid coordinate. -/
theorem coord_val : ∀ t : Fin cfg0.N, (grid0.coords t 0).val = t.val := by decide +kernel

/-! ## The blocks a step reads -/

/-- The block to transform, the block to filter, the two split tables and the two inverse tables, at a step. -/
def ahead (c : Dev nD) (t : Fin cfg0.N) : S4x512x512.Idx → Elt F .f32 := iblk m c 0 t
def behind (c : Dev nD) (t : Fin cfg0.N) : S4x512x512.Idx → Elt F .f32 := iblk m c 1 t
def tableHi (c : Dev nD) (t : Fin cfg0.N) : S528x512.Idx → Elt F .bf16 := iblk m c 2 t
def tableLo (c : Dev nD) (t : Fin cfg0.N) : S528x512.Idx → Elt F .bf16 := iblk m c 3 t
def backRe (c : Dev nD) (t : Fin cfg0.N) : S512x264.Idx → Elt F .bf16 := iblk m c 4 t
def backIm (c : Dev nD) (t : Fin cfg0.N) : S512x264.Idx → Elt F .bf16 := iblk m c 5 t

/-- The transform of one entry read at step `s`. -/
def spectrumAt (c : Dev nD) (s : Fin cfg0.N) (g : Fin 4) : Vec F S1x1x528x512 .f32 :=
  spectrum (tableHi m c s) (tableLo m c s) (entry g (ahead m c s))

/-- The output block of step `t` from the transforms of step `s`. -/
def leaves (c : Dev nD) (s t : Fin cfg0.N) : S4x512x512.Idx → Elt F .f32 := fun y =>
  filtered (spectrumAt m c s (y 0)) (backRe m c t) (backIm m c t) (entry (y 0) (behind m c t)) (ix3 0 (y 1) (y 2))

/-- The scratch before step `t` holds the transforms of the step before. -/
def Holds (c : Dev nD) (t : ℕ) (ds : S2x4x528x512.Idx → Elt F .f32) : Prop :=
  ∀ s : Fin cfg0.N, s.val + 1 = t → ∀ g, stored (half s.val) g ds = spectrumAt m c s g

/-- A step that finds the transforms of the step before leaves the output block made of them. -/
theorem outBlock_eq (c : Dev nD) (s t : Fin cfg0.N) (hst : s.val + 1 = t.val) (ds : S2x4x528x512.Idx → Elt F .f32)
    (h : Holds m c t.val ds) :
    outBlock (half (t.val + 1)) ds (behind m c t) (backRe m c t) (backIm m c t) = leaves m c s t := by
  have hh : half (t.val + 1) = half s.val := Fin.ext (by simp only [half]; omega)
  funext y
  show filtered (stored (half (t.val + 1)) (y 0) ds) _ _ _ _ = filtered (spectrumAt m c s (y 0)) _ _ _ _
  rw [hh]
  exact congrArg (fun a => filtered a (backRe m c t) (backIm m c t) (entry (y 0) (behind m c t)) (ix3 0 (y 1) (y 2)))
    (h s hst (y 0))

/-- Filling this step's half with the transforms of its block prepares the next step. -/
theorem holds_succ (c : Dev nD) (t : Fin cfg0.N) (ds : S2x4x528x512.Idx → Elt F .f32) :
    Holds m c (t.val + 1) (filled (half t.val) (ahead m c t) (tableHi m c t) (tableLo m c t) ds) := fun s hs g => by
  obtain rfl : s = t := Fin.ext (by omega)
  exact stored_filled_self _ _ _ _ _ _

/-! ## The proof data -/

/-- Only the output's window is left to a relation. -/
def marked : Fin cfg0.W → Bool := fun w => w.val == 6

/-- What a step may leave in the output's window: after a step before it, the block made of that step's transforms. -/
def Left (c : Dev nD) : (w : Fin cfg0.W) → Fin cfg0.N → ((cfg0.win w).block.Idx → Elt F (cfg0.win w).elt) → Prop
  | ⟨6, _⟩ => fun t X => ∀ s : Fin cfg0.N, s.val + 1 = t.val → X = leaves m c s t
  | _ => fun _ _ => True

/-- Arrays as the region finds them; inputs left as they are; the scratch holding the step before's transforms. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => Pipeline.Dat.unnamed (cfg := cfg0) 6 t
  Φ t := iprop((∃ ds, ⌜Holds m c t.val ds⌝ ∗ owns (c : Thread nD τ) (Memref.whole cc0_scratch0) fullShare ds)
    ∗ ∃ r, prngReg c r)
  q w := Pipeline.shareOf spec0 w
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation -/

/-- What the body is called with, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ Y, ⌜((dats m 0 c).toRRel marked (Left m c)).Finds 6 t Y⌝ ∗ owns (c : Thread nD τ) (st0_6 t) fullShare Y))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (∃ X, ⌜Left m c 6 t X⌝ ∗ owns (c : Thread nD τ) (st0_6 t) fullShare X))

/-- The body at a step. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5,
    after0_0, after0_1, after0_2, after0_3, after0_4, after0_5]
  rw [show (dats m 0 c).owesAt () t.succ = (dats m 0 c).owesAt () t.castSucc from rfl,
    show (dats m 0 c).Φ t.castSucc = iprop((∃ ds, ⌜Holds m c t.val ds⌝
      ∗ owns (c : Thread nD τ) (Memref.whole cc0_scratch0) fullShare ds) ∗ ∃ r, prngReg c r) from rfl,
    show (dats m 0 c).Φ t.succ = iprop((∃ ds, ⌜Holds m c (t.val + 1) ds⌝
      ∗ owns (c : Thread nD τ) (Memref.whole cc0_scratch0) fullShare ds) ∗ ∃ r, prngReg c r) from rfl]
  iintro ⟨⟨⟨%ds, %hds, HS⟩, Hr⟩, HO, ⟨%d0, H0⟩, ⟨%d1, H1⟩, ⟨%d2, H2⟩, ⟨%d3, H3⟩, ⟨%d4, H4⟩, ⟨%d5, H5⟩, ⟨%Y, %hY, H6⟩⟩
  iapply (kernelRun c (grid0.coords t) _ _ _ _ _ _ _ _ _ _ _ _ _ _ _ _ (ahead m c t) (behind m c t) (tableHi m c t)
    (tableLo m c t) (backRe m c t) (backIm m c t) Y ds _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS]; · iexact HS
  iintro ⟨H0, H1, H2, H3, H4, H5, H6, HS⟩
  rw [coord_val]
  isplitl [HS Hr]
  · isplitl [HS]
    · iexists _; isplitr; swap; · iexact HS
      ipureintro; exact holds_succ m c t ds
    iexact Hr
  isplitl [HO]; · iexact HO
  isplitl [H0]; · iexact H0
  isplitl [H1]; · iexact H1
  isplitl [H2]; · iexact H2
  isplitl [H3]; · iexact H3
  isplitl [H4]; · iexact H4
  isplitl [H5]; · iexact H5
  iexists _; isplitr; swap; · iexact H6
  ipureintro
  exact fun s hs => outBlock_eq m c s t hs ds hds

/-- The body table's row at the step is the body. -/
theorem defs₀_row (t : Fin cfg0.N) : defs₀ (F := F) .tc cfg0.body (cfg0.bodyArgs t (cfg0.slots t)) = bodyAt0 t := by
  unfold defs₀; rw [Defs.onTc_tc]

/-- The library's body obligation, the output held to its relation. -/
theorem body_obligation (c : Dev nD) :
    Pipeline.BodyObligationRel (dats (F := F) m 0 c) (defs₀ (F := F)) Variants.none () Set.univ marked (Left m c) := fun t => by
  rw [bigSep_W0, bigSep_W0, defs₀_row]
  exact triple_restated (sound_body m c t) rfl .rfl fun _ => .rfl

/-! ## The launch -/

/-- The relational data the run is of. -/
abbrev rdats (c : Dev nD) : Pipeline.RDat τ (Elt F) Unit ℕ (UR sig nD τ) ℕ cfg0 c := (dats m 0 c).toRRel marked (Left m c)

theorem launch_in (c : Dev nD) : Pipeline.ΦA spec0 c ⊢ (rdats m c).Φ 0 := by
  rw [show (rdats m c).Φ 0 = iprop((∃ ds, ⌜Holds m c 0 ds⌝
      ∗ owns (c : Thread nD τ) (Memref.whole cc0_scratch0) fullShare ds) ∗ ∃ r, prngReg c r) from rfl]
  unfold Pipeline.ΦA
  rw [scopedRest0_eq]
  simp only [owns_whole]
  iintro ⟨⟨%f, H⟩, Hr⟩
  isplitl [H]
  · iexists _; isplitr; swap; · iexact H
    ipureintro; exact fun s hs => absurd hs (Nat.succ_ne_zero _)
  iexact Hr

theorem launch_out (c : Dev nD) : (rdats m c).Φ (Fin.last cfg0.N) ⊢ Pipeline.ΦA spec0 c := by
  rw [show (rdats m c).Φ (Fin.last cfg0.N) = iprop((∃ ds, ⌜Holds m c (Fin.last cfg0.N).val ds⌝
      ∗ owns (c : Thread nD τ) (Memref.whole cc0_scratch0) fullShare ds) ∗ ∃ r, prngReg c r) from rfl]
  unfold Pipeline.ΦA
  rw [scopedRest0_eq]
  simp only [owns_whole]
  iintro ⟨⟨%ds, %hds, H⟩, Hr⟩
  isplitl [H]; · iexists _; iexact H
  iexact Hr

set_option backward.isDefEq.respectTransparency.types false in
/-- From any memory with zero counters every weakly fair execution terminates, with the arrays at what the relation
    allows and every counter at zero. -/
theorem run_main :
    θ_run defs (onTc (τ := τ) (main (F := F))) (s₀ m ρ)
      (fun r => Pipeline.RDat.FramePost (cfgs 0) (rdats m) (V m) r ∧ r.2.sem = fun _ => 0) :=
  Pipeline.RDat.θ_run_frame_track_shared (Q' := _) cfgs (0 : Fin 1) launch₀0 defs₀ Variants.none (rdats m) m ρ main
    (hbody := fun c => (body_obligation m c).toRRel) (hq := fun _ _ _ => rfl)
    (howed := fun _ _ => rfl) (V := V m) (hmain := hmain m Variants.none) (hA := A_eq m)
    (hin := launch_in m) (hout := launch_out m)

end Cert.KernelIdeal.Hand

end
-- ==== Proof.KernelIdeal.Result.lean ====
module

public import proofs.«01_k».proof.Proof.KernelIdeal.Run

/-! What the run leaves: the argument arrays as they were, every counter at zero, and in the result, at each batch
entry, that entry less the inverse transform of its kept spectrum. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window cellOf)

variable {F : FTy → Type} [FloatOps F]

variable (m : (ℓ : Loc nD τ sig) → Buf (Elt F) ℓ) (ρ : Dev nD → PrngReg)

/-! ## Where the blocks lie -/

theorem index_ahead : ∀ t : Fin cfg0.N, win0_0.index t = ![min t.val 31, 0, 0] := by decide +kernel
theorem index_behind : ∀ t : Fin cfg0.N, win0_1.index t = ![t.val - 1, 0, 0] := by decide +kernel
theorem index_out : ∀ t : Fin cfg0.N, win0_6.index t = ![t.val - 1, 0, 0] := by decide +kernel
theorem flush_out : ∀ t : Fin cfg0.N, win0_6.flush t = true ↔ 1 ≤ t.val := by decide +kernel

/-- One batch entry of an array of all of them. -/
def batch (b : Fin 128) (x : S128x512x512.Idx → Elt F .f32) : Vec F S1x512x512 .f32 :=
  fun y => x (ix3 b (y 1) (y 2))

/-- The step's entry is a batch entry. -/
theorem entry_ahead (c : Dev nD) (t : Fin cfg0.N) (g : Fin 4) (b : Fin 128) (hb : b.val = min t.val 31 * 4 + g.val) :
    entry g (ahead m c t) = batch b (m ((c : Thread nD τ).loc main_arg0)) := by
  funext y
  show V m c main_arg0 ((win0_0.rect t).emb (ix3 g (y 1) (y 2))) = m ((c : Thread nD τ).loc main_arg0) (ix3 b (y 1) (y 2))
  rw [V_main_arg0]
  refine congrArg (m ((c : Thread nD τ).loc main_arg0)) (funext fun a => Fin.ext ?_)
  rw [Window.rect_emb_val win0_0, index_ahead]
  match a with
  | ⟨0, _⟩ => show min t.val 31 * 4 + g.val = b.val; omega
  | ⟨1, _⟩ => show 0 * 512 + (y 1).val = (y 1).val; omega
  | ⟨2, _⟩ => show 0 * 512 + (y 2).val = (y 2).val; omega
theorem entry_behind (c : Dev nD) (t : Fin cfg0.N) (g : Fin 4) (b : Fin 128) (hb : b.val = (t.val - 1) * 4 + g.val) :
    entry g (behind m c t) = batch b (m ((c : Thread nD τ).loc main_arg0)) := by
  funext y
  show V m c main_arg0 ((win0_1.rect t).emb (ix3 g (y 1) (y 2))) = m ((c : Thread nD τ).loc main_arg0) (ix3 b (y 1) (y 2))
  rw [V_main_arg0]
  refine congrArg (m ((c : Thread nD τ).loc main_arg0)) (funext fun a => Fin.ext ?_)
  rw [Window.rect_emb_val win0_1, index_behind]
  match a with
  | ⟨0, _⟩ => show (t.val - 1) * 4 + g.val = b.val; omega
  | ⟨1, _⟩ => show 0 * 512 + (y 1).val = (y 1).val; omega
  | ⟨2, _⟩ => show 0 * 512 + (y 2).val = (y 2).val; omega

/-- The tables are read whole. -/
theorem index_hi : ∀ t : Fin cfg0.N, win0_2.index t = ![0, 0] := by decide +kernel
theorem index_lo : ∀ t : Fin cfg0.N, win0_3.index t = ![0, 0] := by decide +kernel
theorem index_re : ∀ t : Fin cfg0.N, win0_4.index t = ![0, 0] := by decide +kernel
theorem index_im : ∀ t : Fin cfg0.N, win0_5.index t = ![0, 0] := by decide +kernel
theorem tableHi_eq (c : Dev nD) (t : Fin cfg0.N) : tableHi m c t = V m c main_call0_v38 := by
  funext y
  show V m c main_call0_v38 ((win0_2.rect t).emb y) = V m c main_call0_v38 y
  refine congrArg (V m c main_call0_v38) (funext fun a => Fin.ext ?_)
  rw [Window.rect_emb_val win0_2, index_hi]
  match a with
  | ⟨0, _⟩ => show 0 * 528 + (y 0).val = (y 0).val; omega
  | ⟨1, _⟩ => show 0 * 512 + (y 1).val = (y 1).val; omega
theorem tableLo_eq (c : Dev nD) (t : Fin cfg0.N) : tableLo m c t = V m c main_call0_v41 := by
  funext y
  show V m c main_call0_v41 ((win0_3.rect t).emb y) = V m c main_call0_v41 y
  refine congrArg (V m c main_call0_v41) (funext fun a => Fin.ext ?_)
  rw [Window.rect_emb_val win0_3, index_lo]
  match a with
  | ⟨0, _⟩ => show 0 * 528 + (y 0).val = (y 0).val; omega
  | ⟨1, _⟩ => show 0 * 512 + (y 1).val = (y 1).val; omega
theorem backRe_eq (c : Dev nD) (t : Fin cfg0.N) : backRe m c t = V m c main_call0_v42 := by
  funext y
  show V m c main_call0_v42 ((win0_4.rect t).emb y) = V m c main_call0_v42 y
  refine congrArg (V m c main_call0_v42) (funext fun a => Fin.ext ?_)
  rw [Window.rect_emb_val win0_4, index_re]
  match a with
  | ⟨0, _⟩ => show 0 * 512 + (y 0).val = (y 0).val; omega
  | ⟨1, _⟩ => show 0 * 264 + (y 1).val = (y 1).val; omega
theorem backIm_eq (c : Dev nD) (t : Fin cfg0.N) : backIm m c t = V m c main_call0_v43 := by
  funext y
  show V m c main_call0_v43 ((win0_5.rect t).emb y) = V m c main_call0_v43 y
  refine congrArg (V m c main_call0_v43) (funext fun a => Fin.ext ?_)
  rw [Window.rect_emb_val win0_5, index_im]
  match a with
  | ⟨0, _⟩ => show 0 * 512 + (y 0).val = (y 0).val; omega
  | ⟨1, _⟩ => show 0 * 264 + (y 1).val = (y 1).val; omega

/-! ## The result -/

/-- The result array from the argument and the four tables. -/
def resultOf (hi lo : S528x512.Idx → Elt F .bf16) (rr ri : S512x264.Idx → Elt F .bf16)
    (x : S128x512x512.Idx → Elt F .f32) : S128x512x512.Idx → Elt F .f32 := fun i =>
  filtered (spectrum hi lo (batch (i 0) x)) rr ri (batch (i 0) x) (ix3 0 (i 1) (i 2))

/-- The result of the run. -/
def result (c : Dev nD) : S128x512x512.Idx → Elt F .f32 :=
  resultOf (V m c main_call0_v38) (V m c main_call0_v41) (V m c main_call0_v42) (V m c main_call0_v43)
    (m ((c : Thread nD τ).loc main_arg0))

/-- A step's block, at a place of the array. -/
theorem leaves_eq (c : Dev nD) (s t : Fin cfg0.N) (hst : s.val + 1 = t.val) (y : S4x512x512.Idx)
    (i : S128x512x512.Idx) (hi : i = (win0_6.rect t).emb y) : leaves m c s t y = result m c i := by
  have h0 : (i 0).val = (t.val - 1) * 4 + (y 0).val := by
    rw [hi, Window.rect_emb_val win0_6, index_out]; rfl
  have h1 : i 1 = y 1 := Fin.ext (by
    rw [hi, Window.rect_emb_val win0_6, index_out]; show 0 * 512 + (y 1).val = (y 1).val; omega)
  have h2 : i 2 = y 2 := Fin.ext (by
    rw [hi, Window.rect_emb_val win0_6, index_out]; show 0 * 512 + (y 2).val = (y 2).val; omega)
  have ht : t.val < 33 := t.isLt
  unfold leaves result resultOf spectrumAt
  rw [entry_ahead m c s (y 0) (i 0) (by rw [h0, Nat.min_eq_left (by omega)]; omega), entry_behind m c t (y 0) (i 0) h0,
    tableHi_eq, tableLo_eq, backRe_eq, backIm_eq, h1, h2]

/-- Every place of the result lies in a block written back. -/
theorem covered (i : S128x512x512.Idx) : ∃ t : Fin cfg0.N, 1 ≤ t.val ∧ ∃ y : S4x512x512.Idx, i = (win0_6.rect t).emb y := by
  have h0 : (i 0).val < 128 := (i 0).isLt
  refine ⟨⟨(i 0).val / 4 + 1, show _ < 33 by omega⟩, by show 1 ≤ (i 0).val / 4 + 1; omega,
    ix3 (⟨(i 0).val % 4, Nat.mod_lt _ (by decide)⟩ : Fin 4) (i 1) (i 2), funext fun a => Fin.ext ?_⟩
  rw [Window.rect_emb_val win0_6, index_out]
  match a with
  | ⟨0, _⟩ => show (i 0).val = ((i 0).val / 4 + 1 - 1) * 4 + (i 0).val % 4; omega
  | ⟨1, _⟩ => show (i 1).val = 0 * 512 + (i 1).val; omega
  | ⟨2, _⟩ => show (i 2).val = 0 * 512 + (i 2).val; omega

/-- The result array after the run. -/
theorem result_of_post (c : Dev nD) (G : S128x512x512.Idx → Elt F .f32) (hG : (rdats m c).ArrAt 6 cfg0.N G) :
    G = result m c := by
  obtain ⟨X, hX, hA⟩ := hG.exists_exact
  have e := hA (Function.update (fun _ _ _ => Classical.arbitrary _) 6 X) fun u _ _ => by rw [Function.update_self]
  rw [e]
  funext i
  refine Dat.arrAt_forall_of_cover ((rdats m c).withAfter _) 6 (fun i v => v = result m c i) (fun t hf y => ?_)
    (fun i => ?_) i
  · have ht : 1 ≤ t.val := (flush_out t).mp hf
    have hl : Left m c 6 t (X t) := Dat.toRRel_leaves (dats m 0 c) rfl (hX t t.isLt hf)
    have hs := hl ⟨t.val - 1, Nat.lt_of_le_of_lt (Nat.sub_le _ _) t.isLt⟩ (by show t.val - 1 + 1 = t.val; omega)
    have hu : ((rdats m c).withAfter (Function.update (fun _ _ _ => Classical.arbitrary _) 6 X)).flushed 6 t y = X t y := by
      show (Function.update (fun _ _ _ => Classical.arbitrary _) 6 X :
        (w' : Fin cfg0.W) → Fin cfg0.N → (cfg0.win w').block.Idx → Elt F (cfg0.win w').elt) 6 t y = X t y
      rw [Function.update_self]
    show ((rdats m c).withAfter (Function.update (fun _ _ _ => Classical.arbitrary _) 6 X)).flushed 6 t y = _
    rw [hu, hs]
    exact leaves_eq m c _ t (by show t.val - 1 + 1 = t.val; omega) y _ rfl
  · obtain ⟨t, ht, y, rfl⟩ := covered i
    exact ⟨t, (flush_out t).mpr ht, View.emb_mem_set _ y⟩

/-- The run, all its results named. -/
theorem run :
    θ_run defs (onTc (τ := τ) (main (F := F))) ⟨m, fun _ => 0, ρ⟩ (fun r => (∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => ⟨result_of_post m c _ ((h.1 c).1 6),
      (h.1.arr_in c 1 rfl).trans ((A_eq m c 1).trans (V_main_arg0 m c)),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c)⟩, h.2⟩)
    (run_main m ρ)

end Cert.KernelIdeal.Hand

end
-- ==== Proof.ReferenceIdeal.Frame.lean ====
module

public import proofs.«01_k».proof.Defs
public import proofs.«01_k».proof.Proof.Gen.ReferenceIdeal.Run
public import Idealize.ShloMosaic.Lib.Quiescent

/-! The reference runs, leaves its arguments as they were, and has no counter to leave anywhere but at zero. -/

@[expose] public section

noncomputable section

namespace Cert.ReferenceIdeal.Hand

open Cert.ReferenceIdeal Cert.ReferenceIdeal.Gen
open Idealize.ShloMosaic Idealize.ShloMosaic.TcCoe Idealize.SL Idealize.SL.Sem

theorem quiescent : Cert.quiescent_ReferenceIdeal := fun m ρ _ =>
  (θ_run defs _ _).mono (fun r h => ⟨fun c => (h c).2, sem_eq_zero_of_no_sems (by decide) _⟩) (Value.run m ρ)

end Cert.ReferenceIdeal.Hand

end
-- ==== Proof.Select.Column.lean ====
module

public import Mathlib.Data.Finset.Lattice.Fold
public import Mathlib.Data.Multiset.AddSub
public import Mathlib.Data.EReal.Basic
public import Mathlib.Tactic.Abel

@[expose] public section

/-! # Selecting the k-th largest entry by popping sorted columns

The kernel arranges the squared magnitudes of one channel as 66 columns of four, sorts each column
and then removes the largest column head twenty times, moving the rest of that column up. This file
proves, over any linear order, that the head removed last is the twentieth largest entry, provided
the leading entries are distinct. -/

namespace Cert.Select

variable {α : Type*} [LinearOrder α]

/-- A column of four, read from the top. -/
structure Col (α : Type*) where
  a : α
  b : α
  c : α
  d : α

/-- One column after its head was compared with `t`: the head leaves if it equals `t`, and the
sentinel `z` enters at the bottom. -/
def Col.pop (z t : α) (s : Col α) : Col α :=
  if s.a = t then ⟨s.b, s.c, s.d, z⟩ else s

/-- The first four entries of a list, filled up with the sentinel. -/
def Col.ofList (z : α) (l : List α) : Col α :=
  ⟨l.getD 0 z, l.getD 1 z, l.getD 2 z, l.getD 3 z⟩

/-- The comparator network on four values: the result is sorted. -/
def Col.net (p q r s : α) : Col α :=
  let ha := max p r
  let la := min p r
  let hb := max q s
  let lb := min q s
  ⟨max ha hb, max (min ha hb) (max la lb), min (min ha hb) (max la lb), min la lb⟩

/-- The four entries as a list. -/
def Col.toList (s : Col α) : List α := [s.a, s.b, s.c, s.d]

omit [LinearOrder α] in
lemma Col.ofList_toList (z : α) (s : Col α) : Col.ofList z s.toList = s := rfl

lemma perm_max_min (x y : α) : [max x y, min x y].Perm [x, y] := by
  rcases le_total x y with h | h
  · rw [max_eq_right h, min_eq_left h]; exact List.Perm.swap _ _ _
  · rw [max_eq_left h, min_eq_right h]

/-- The network only rearranges. -/
lemma Col.net_perm (p q r s : α) : (Col.net p q r s).toList.Perm [p, q, r, s] := by
  have h1 := perm_max_min p r
  have h2 := perm_max_min q s
  have h3 := perm_max_min (max p r) (max q s)
  have h4 := perm_max_min (min p r) (min q s)
  have h5 := perm_max_min (min (max p r) (max q s)) (max (min p r) (min q s))
  rw [← Multiset.coe_eq_coe] at *
  simp only [← Multiset.cons_coe, Col.toList, Col.net] at *
  simp only [Multiset.coe_nil, ← Multiset.singleton_add, add_zero] at *
  calc _ = {max (max p r) (max q s)} + ({max (min (max p r) (max q s)) (max (min p r) (min q s))} +
        {min (min (max p r) (max q s)) (max (min p r) (min q s))}) + {min (min p r) (min q s)} := by
          abel
    _ = ({max (max p r) (max q s)} + {min (max p r) (max q s)}) +
        ({max (min p r) (min q s)} + {min (min p r) (min q s)}) := by rw [h5]; abel
    _ = ({max p r} + {min p r}) + ({max q s} + {min q s}) := by rw [h3, h4]; abel
    _ = _ := by rw [h1, h2]; abel

/-- The network's result is sorted downwards. -/
lemma Col.net_sorted (p q r s : α) : (Col.net p q r s).toList.Pairwise (· ≥ ·) := by
  have e : ∀ x y : α, min x y ≤ max x y := fun x y => min_le_max
  simp only [Col.toList, Col.net, List.pairwise_cons, List.mem_cons, List.not_mem_nil, or_false,
    forall_eq_or_imp, forall_eq, List.Pairwise.nil, and_true, IsEmpty.forall_iff, implies_true,
    ge_iff_le]
  have a1 := e p r
  have a2 := e q s
  refine ⟨⟨?_, ?_, ?_⟩, ⟨?_, ?_⟩, ?_⟩
  · exact max_le (min_le_max) (max_le_max a1 a2)
  · exact (min_le_left _ _).trans min_le_max
  · exact (min_le_left _ _).trans (a1.trans (le_max_left _ _))
  · exact min_le_max
  · exact (min_le_left _ _).trans ((le_max_left _ _).trans (le_max_right _ _))
  · refine le_min (le_min ?_ ?_) ((min_le_left _ _).trans (le_max_left _ _))
    · exact (min_le_left _ _).trans a1
    · exact (min_le_right _ _).trans a2

/-- Popping a sorted list at its greatest possible value, in terms of the entries that stay. -/
lemma Col.pop_ofList {z v w : α} {l : List α} (hs : l.Pairwise (· ≥ ·)) (hlen : l.length ≤ 4)
    (hz : z < v) (hw : w < v) (hle : ∀ x ∈ l, x ≤ v) (hgap : ∀ x ∈ l, x = v ∨ x ≤ w)
    (hone : l.count v ≤ 1) :
    (Col.ofList z l).pop z v = Col.ofList z (l.filter (· ≤ w)) := by
  cases l with
  | nil => simp [Col.pop, Col.ofList, hz.ne]
  | cons x t =>
    rw [List.pairwise_cons] at hs
    by_cases hx : x = v
    · subst hx
      have ht : t.filter (· ≤ w) = t := by
        rw [List.filter_eq_self]
        intro y hy
        rcases hgap y (List.mem_cons_of_mem _ hy) with rfl | h
        · rw [List.count_cons_self] at hone
          exact absurd (List.count_pos_iff.2 hy) (by omega)
        · simpa using h
      rw [List.filter_cons_of_neg (by simpa using hw), ht]
      match t, hlen with
      | [], _ => simp [Col.pop, Col.ofList]
      | [_], _ => simp [Col.pop, Col.ofList]
      | [_, _], _ => simp [Col.pop, Col.ofList]
      | [_, _, _], _ => simp [Col.pop, Col.ofList]
    · have hxw : x ≤ w := (hgap x (by simp)).resolve_left hx
      have : (x :: t).filter (· ≤ w) = x :: t := by
        rw [List.filter_eq_self]
        intro y hy
        rcases List.mem_cons.1 hy with rfl | hy
        · simpa using hxw
        · simpa using (hs.1 y hy).trans hxw
      rw [this]
      simp [Col.pop, Col.ofList, hx]

variable {ι : Type*} [Fintype ι] [OrderBot α]

/-- The largest column head. -/
def top (s : ι → Col α) : α := Finset.univ.sup fun j => (s j).a

/-- One round: every column is popped at the largest head. -/
def round (z : α) (s : ι → Col α) : ι → Col α := fun j => (s j).pop z (top s)

/-- The columns after `k` rounds. -/
def rounds (z : α) (s : ι → Col α) : ℕ → ι → Col α
  | 0 => s
  | k + 1 => round z (rounds z s k)

omit [Fintype ι] [OrderBot α] in
lemma ofList_head_le {z v : α} {l : List α} (hz : z ≤ v) (hle : ∀ x ∈ l, x ≤ v) :
    (Col.ofList z l).a ≤ v := by
  cases l with
  | nil => simpa [Col.ofList] using hz
  | cons x t => simpa [Col.ofList] using hle x (by simp)

omit [Fintype ι] [OrderBot α] in
lemma ofList_head_of_mem {z v : α} {l : List α} (hs : l.Pairwise (· ≥ ·)) (hle : ∀ x ∈ l, x ≤ v)
    (hv : v ∈ l) : (Col.ofList z l).a = v := by
  cases l with
  | nil => simp at hv
  | cons x t =>
    rw [List.pairwise_cons] at hs
    refine le_antisymm (by simpa [Col.ofList] using hle x (by simp)) ?_
    rcases List.mem_cons.1 hv with rfl | h
    · simp [Col.ofList]
    · simpa [Col.ofList] using hs.1 v h

/-- **The selection.** `l j` is column `j`, sorted; `v 0 > v 1 > …` are the leading values, each
present, none repeated inside a column, and no entry lies strictly between two neighbours. Then the
head that round `k` removes is `v k`. -/
theorem top_rounds {z : α} {l : ι → List α} {v : ℕ → α} {n : ℕ}
    (hs : ∀ j, (l j).Pairwise (· ≥ ·)) (hlen : ∀ j, (l j).length ≤ 4)
    (hz : ∀ k ≤ n, z < v k) (hmem : ∀ k ≤ n, ∃ j, v k ∈ l j)
    (hle : ∀ j, ∀ x ∈ l j, x ≤ v 0)
    (hdec : ∀ k < n, v (k + 1) < v k)
    (hgap : ∀ k < n, ∀ j, ∀ x ∈ l j, x ≤ v k → x = v k ∨ x ≤ v (k + 1))
    (hone : ∀ k ≤ n, ∀ j, (l j).count (v k) ≤ 1) :
    ∀ k ≤ n, (rounds z (fun j => Col.ofList z (l j)) k =
        fun j => Col.ofList z ((l j).filter (· ≤ v k))) ∧
      top (rounds z (fun j => Col.ofList z (l j)) k) = v k := by
  have head : ∀ k ≤ n, top (fun j => Col.ofList z ((l j).filter (· ≤ v k))) = v k := by
    intro k hk
    refine le_antisymm (Finset.sup_le fun j _ => ofList_head_le (hz k hk).le fun x hx => ?_) ?_
    · simpa using (List.mem_filter.1 hx).2
    · obtain ⟨j, hj⟩ := hmem k hk
      refine le_trans (ge_of_eq ?_)
        (Finset.le_sup (f := fun j => (Col.ofList z ((l j).filter (· ≤ v k))).a) (Finset.mem_univ j))
      refine ofList_head_of_mem ((hs j).filter _) (fun x hx => ?_) (List.mem_filter.2 ⟨hj, by simp⟩)
      simpa using (List.mem_filter.1 hx).2
  intro k
  induction k with
  | zero =>
    intro _
    have : (fun j => Col.ofList z ((l j).filter (· ≤ v 0))) = fun j => Col.ofList z (l j) := by
      funext j
      rw [List.filter_eq_self.2 fun x hx => by simpa using hle j x hx]
    exact ⟨this.symm, by rw [rounds, ← this]; exact head 0 (Nat.zero_le _)⟩
  | succ k ih =>
    intro hk
    obtain ⟨e, t⟩ := ih (by omega)
    have e' : rounds z (fun j => Col.ofList z (l j)) (k + 1) =
        fun j => Col.ofList z ((l j).filter (· ≤ v (k + 1))) := by
      funext j
      show Col.pop z (top (rounds z _ k)) (rounds z _ k j) = _
      rw [t, e]
      dsimp only
      rw [Col.pop_ofList (w := v (k + 1)) ((hs j).filter _)
        ((List.length_filter_le _ _).trans (hlen j)) (hz k (by omega)) (hdec k (by omega))]
      · congr 1
        rw [List.filter_filter]
        refine List.filter_congr fun x _ => ?_
        have := hdec k (by omega)
        by_cases h : x ≤ v (k + 1)
        · simp [h, h.trans this.le]
        · simp [h]
      · intro x hx; simpa using (List.mem_filter.1 hx).2
      · intro x hx
        obtain ⟨hx, h⟩ := List.mem_filter.1 hx
        exact hgap k (by omega) j x hx (by simpa using h)
      · exact (List.Sublist.count_le _ List.filter_sublist).trans (hone k (by omega) j)
    exact ⟨e', by rw [e']; exact head (k + 1) hk⟩

end Cert.Select
-- ==== Proof.Select.Threshold.lean ====
module

public import proofs.«01_k».proof.Proof.Select.Column
public import Idealize.ShloMosaic.PureOps.Ideal

@[expose] public section

/-! # The threshold of one channel

A channel has 257 squared magnitudes, padded with zeros to 264 and arranged as 66 columns of four.
If an ordering of the 257 places lists the magnitudes downwards and its first 21 are strictly
decreasing, then the head removed in the twentieth round is the twentieth entry of the ordering, and
the places not below it are the first twenty. -/

noncomputable section

namespace Cert.Select

/-- The sorted column `j` of the padded magnitudes. -/
def cell (p : Fin 264 → EReal) (j : Fin 66) : Col EReal :=
  Col.net (p ⟨j.1, by omega⟩) (p ⟨66 + j.1, by omega⟩) (p ⟨132 + j.1, by omega⟩) (p ⟨198 + j.1, by omega⟩)

/-- The largest head after nineteen rounds. -/
def threshold (p : Fin 264 → EReal) : EReal := top (rounds (-1) (cell p) 19)

/-- A place among the first 257. -/
def place (f : Fin 257) : Fin 264 := ⟨f.1, by omega⟩

/-- What the theorems ask of the magnitudes and of the ordering. -/
structure Ordered (p : Fin 264 → EReal) (σ : Fin 257 → Fin 257) : Prop where
  nonneg : ∀ f, 0 ≤ p f
  pads : ∀ f : Fin 264, 257 ≤ f.1 → p f = 0
  onto : Function.Surjective σ
  anti : ∀ i j : Fin 257, i.1 < j.1 → p (place (σ j)) ≤ p (place (σ i))
  strict : ∀ i j : Fin 257, i.1 < 20 → j.1 = i.1 + 1 → p (place (σ j)) < p (place (σ i))

/-- The `k`-th largest magnitude. -/
def value (p : Fin 264 → EReal) (σ : Fin 257 → Fin 257) (k : ℕ) : EReal :=
  if h : k < 257 then p (place (σ ⟨k, h⟩)) else 0

/-- The four places of a column. -/
def places (j : Fin 66) : List (Fin 264) :=
  [⟨j.1, by omega⟩, ⟨66 + j.1, by omega⟩, ⟨132 + j.1, by omega⟩, ⟨198 + j.1, by omega⟩]

lemma places_nodup (j : Fin 66) : (places j).Nodup := by
  simp [places, Fin.ext_iff]

lemma cell_perm (p : Fin 264 → EReal) (j : Fin 66) : (cell p j).toList.Perm ((places j).map p) :=
  Col.net_perm _ _ _ _

lemma mem_places (f : Fin 264) : f ∈ places ⟨f.1 % 66, Nat.mod_lt _ (by decide)⟩ := by
  have h := f.2
  simp [places, Fin.ext_iff]
  omega

lemma neg_one_lt : (-1 : EReal) < 0 := by
  rw [EReal.neg_lt_comm, neg_zero]; exact zero_lt_one

variable {p : Fin 264 → EReal} {σ : Fin 257 → Fin 257} (h : Ordered p σ)
include h

lemma value_eq (k : ℕ) (hk : k < 257) : value p σ k = p (place (σ ⟨k, hk⟩)) := dif_pos hk

lemma value_strict (k : ℕ) (hk : k < 20) : value p σ (k + 1) < value p σ k := by
  rw [value_eq h k (by omega), value_eq h (k + 1) (by omega)]
  exact h.strict _ _ hk rfl

lemma value_nonneg (k : ℕ) : 0 ≤ value p σ k := by
  unfold value
  split
  · exact h.nonneg _
  · exact le_rfl

lemma value_pos (k : ℕ) (hk : k < 20) : 0 < value p σ k :=
  (value_nonneg h (k + 1)).trans_lt (value_strict h k hk)

/-- Every place is a pad or has a rank. -/
lemma rank (f : Fin 264) : p f = 0 ∨ ∃ i : Fin 257, f = place (σ i) := by
  by_cases hf : 257 ≤ f.1
  · exact .inl (h.pads f hf)
  · obtain ⟨i, hi⟩ := h.onto ⟨f.1, by omega⟩
    exact .inr ⟨i, by rw [hi]; rfl⟩

/-- A place of larger rank has no larger magnitude. -/
lemma le_value (k : ℕ) (i : Fin 257) (hk : k ≤ i.1) : p (place (σ i)) ≤ value p σ k := by
  rw [value_eq h k (by omega)]
  rcases Nat.eq_or_lt_of_le hk with e | e
  · subst e; exact le_rfl
  · exact h.anti _ _ e

/-- A place of smaller rank has a larger magnitude. -/
lemma value_lt (k : ℕ) (hk : k < 20) (i : Fin 257) (hi : i.1 < k) : value p σ k < p (place (σ i)) := by
  have h1 := value_strict h i.1 (by omega)
  rw [value_eq h i.1 i.2] at h1
  refine lt_of_le_of_lt ?_ h1
  rw [value_eq h k (by omega)]
  exact le_value h (i.1 + 1) ⟨k, by omega⟩ hi

lemma gap (k : ℕ) (hk : k < 20) (f : Fin 264) (hf : p f ≤ value p σ k) :
    p f = value p σ k ∨ p f ≤ value p σ (k + 1) := by
  rcases rank h f with e | ⟨i, rfl⟩
  · right; rw [e]; exact value_nonneg h _
  · rcases Nat.lt_trichotomy i.1 k with e | e | e
    · exact absurd hf (not_le.2 (value_lt h k hk i e))
    · left; rw [value_eq h k (by omega)]; subst e; rfl
    · right; exact le_value h _ i e

lemma place_of_eq (k : ℕ) (hk : k < 20) (f : Fin 264) (hf : p f = value p σ k) :
    f = place (σ ⟨k, by omega⟩) := by
  rcases rank h f with e | ⟨i, rfl⟩
  · exact absurd (value_pos h k hk) (by rw [← hf, e]; exact lt_irrefl _)
  · rcases Nat.lt_trichotomy i.1 k with e | e | e
    · exact absurd hf (value_lt h k hk i e).ne'
    · subst e; rfl
    · exact absurd hf ((le_value h (k + 1) i e).trans_lt (value_strict h k hk)).ne

lemma count_value (k : ℕ) (hk : k < 20) (j : Fin 66) : (cell p j).toList.count (value p σ k) ≤ 1 := by
  rw [(cell_perm p j).count_eq, List.count, List.countP_map]
  refine (List.countP_mono_left (q := fun f => f == place (σ ⟨k, by omega⟩)) fun f _ hf => ?_).trans
    (List.nodup_iff_count_le_one.1 (places_nodup j) _)
  have := place_of_eq h k hk f (by simpa using hf)
  simpa using this

/-- The threshold is the twentieth largest magnitude. -/
theorem threshold_eq : threshold p = p (place (σ ⟨19, by omega⟩)) := by
  have key := top_rounds (z := (-1 : EReal)) (l := fun j => (cell p j).toList) (v := value p σ) (n := 19)
    (fun j => Col.net_sorted _ _ _ _) (fun j => by simp [Col.toList])
    (fun k hk => lt_trans neg_one_lt (value_pos h k (by omega)))
    (fun k hk => ⟨_, (cell_perm p _).mem_iff.2 (List.mem_map.2 ⟨_, mem_places (place (σ ⟨k, by omega⟩)),
      (value_eq h k (by omega)).symm⟩)⟩)
    (fun j x hx => by
      obtain ⟨f, _, rfl⟩ := List.mem_map.1 ((cell_perm p j).mem_iff.1 hx)
      rcases rank h f with e | ⟨i, rfl⟩
      · rw [e]; exact value_nonneg h _
      · exact le_value h 0 i (Nat.zero_le _))
    (fun k hk => value_strict h k (by omega))
    (fun k hk j x hx hle => by
      obtain ⟨f, _, rfl⟩ := List.mem_map.1 ((cell_perm p j).mem_iff.1 hx)
      exact gap h k (by omega) f hle)
    (fun k hk j => count_value h k (by omega) j) 19 le_rfl
  exact key.2.trans (value_eq h 19 (by omega))

/-- The places not below the threshold are the first twenty. -/
theorem threshold_le (f : Fin 264) : threshold p ≤ p f ↔ ∃ i : Fin 257, i.1 < 20 ∧ f = place (σ i) := by
  rw [threshold_eq h, ← value_eq h 19 (by omega)]
  constructor
  · intro hf
    rcases rank h f with e | ⟨i, rfl⟩
    · exact absurd (value_pos h 19 (by omega)) (by rw [e] at hf; exact not_lt.2 hf)
    · refine ⟨i, ?_, rfl⟩
      by_contra hi
      exact absurd hf (not_le.2 ((le_value h 20 i (by omega)).trans_lt (value_strict h 19 (by omega))))
  · rintro ⟨i, hi, rfl⟩
    rw [value_eq h 19 (by omega)]
    exact le_value h i.1 ⟨19, by omega⟩ (by simp only; omega) |>.trans (value_eq h i.1 i.2).le

end Cert.Select

end
-- ==== Proof.Values.Selection.lean ====
module

public import proofs.«01_k».proof.Proof.KernelIdeal.Batch
public import proofs.«01_k».proof.Proof.Select.Threshold
public import Idealize.ShloMosaic.Lib.Pointwise
public import Idealize.ShloMosaic.Lib.IdealHost
public import Idealize.ShloMosaic.Lib.WordCmp

@[expose] public section

/-! # The kernel's selection, one channel at a time

The comparator network, the rounds and the comparison with the last head work on every channel apart; on one channel
they are the columns, rounds and threshold of `Select`. -/

noncomputable section

namespace Cert.Values

open Cert.KernelIdeal Cert.KernelIdeal.Gen Cert.KernelIdeal.Hand Idealize.ShloMosaic

/-- One channel of the four sorted rows. -/
def channel (s : Rows Ideal) (n : Fin 512) (j : Fin 66) : Select.Col EReal :=
  ⟨s.a (ix2 j n), s.b (ix2 j n), s.c (ix2 j n), s.d (ix2 j n)⟩

lemma quarter (p : FVec Ideal S264x512 .f32) (j : Fin 66) (n : Fin 512) :
    first (upper p) (ix2 j n) = p (ix2 ⟨j.1, by omega⟩ n) ∧ second (upper p) (ix2 j n) = p (ix2 ⟨66 + j.1, by omega⟩ n)
    ∧ first (lower p) (ix2 j n) = p (ix2 ⟨132 + j.1, by omega⟩ n)
    ∧ second (lower p) (ix2 j n) = p (ix2 ⟨198 + j.1, by omega⟩ n) := by
  refine ⟨?_, ?_, ?_, ?_⟩ <;> pointwise [first, second, upper, lower]
  congr 2
  exact Fin.ext (by simp only []; omega)

lemma channel_columns (p : FVec Ideal S264x512 .f32) (n : Fin 512) :
    channel (columns p) n = Select.cell fun f => p (ix2 f n) := by
  funext j
  obtain ⟨q0, q1, q2, q3⟩ := quarter p j n
  show _ = Select.Col.net (p (ix2 ⟨j.1, _⟩ n)) (p (ix2 ⟨66 + j.1, _⟩ n)) (p (ix2 ⟨132 + j.1, _⟩ n)) (p (ix2 ⟨198 + j.1, _⟩ n))
  rw [← q0, ← q1, ← q2, ← q3]
  rfl

lemma minus_infinity : Ideal.ofBits .f32 0xFF800000#32 = (⊥ : EReal) := by
  simp [Ideal.ofBits, Ideal.ieee]

lemma minus_one : Ideal.ofBits .f32 0xBF800000#32 = (-1 : EReal) := by
  rw [show (-1 : EReal) = ((-1 : ℝ) : EReal) by rw [EReal.coe_neg, EReal.coe_one]]
  simp [Ideal.ofBits, Ideal.ieee, -EReal.coe_mul, -EReal.coe_neg]; norm_num

lemma laneTop_at (s : FVec Ideal S66x512 .f32) (n : Fin 512) :
    laneTop s (ix2 0 n) = Finset.univ.sup fun j : Fin 66 => s (ix2 j n) := by
  pointwise [laneTop]
  rw [minus_infinity]
  rfl

lemma top_at (s : Rows Ideal) (n : Fin 512) : laneTop s.a (ix2 0 n) = Select.top (channel s n) := laneTop_at s.a n

lemma hit_at (s : FVec Ideal S66x512 .f32) (j : Fin 66) (n : Fin 512) :
    hit s (ix2 j n) = BitVec.ofBool (decide (s (ix2 j n) = laneTop s (ix2 0 n))) := by
  have e : ∀ y : FVec Ideal S1x512 .f32, broadcastTo S66x512 y broadcasts_S1x512_S66x512 (ix2 j n) = y (ix2 0 n) := fun y => by
    pointwise
  rw [← e (laneTop s)]
  rfl

lemma channel_pop (s : Rows Ideal) (n : Fin 512) :
    channel (pop s) n = Select.round (-1) (channel s n) := by
  funext j
  have key : ∀ u v : EReal, Scalar.select (hit s.a (ix2 j n)) u v
      = if s.a (ix2 j n) = Select.top (channel s n) then u else v := fun u v => by
    rw [hit_at, WordCmp.select_decide, top_at]
  have sel : ∀ u v : FVec Ideal S66x512 .f32, select (hit s.a) u v (ix2 j n)
      = if s.a (ix2 j n) = Select.top (channel s n) then u (ix2 j n) else v (ix2 j n) := fun u v => key _ _
  unfold Select.round Select.Col.pop
  show Select.Col.mk (select (hit s.a) s.b s.a (ix2 j n)) (select (hit s.a) s.c s.b (ix2 j n))
    (select (hit s.a) s.d s.c (ix2 j n))
    (select (hit s.a) (broadcast S66x512 (Scalar.ofBits .f32 0xBF800000#32)) s.d (ix2 j n)) = _
  rw [sel, sel, sel, sel]
  show Select.Col.mk _ _ _ (if _ then Ideal.ofBits .f32 0xBF800000#32 else _) = _
  rw [minus_one]
  by_cases h : s.a (ix2 j n) = Select.top (channel s n)
  · simp only [if_pos h]
    exact (if_pos h).symm
  · simp only [if_neg h]
    exact (if_neg h).symm

lemma channel_popped (s : Rows Ideal) (n : Fin 512) (k : ℕ) :
    channel (popped s k) n = Select.rounds (-1) (channel s n) k := by
  induction k with
  | zero => rfl
  | succ k ih =>
    show channel (pop (popped s k)) n = Select.round (-1) (Select.rounds (-1) (channel s n) k)
    rw [channel_pop, ih]

lemma not_below (p : FVec Ideal S264x512 .f32) (y : FVec Ideal S1x512 .f32) (f : Fin 264) (n : Fin 512) :
    cmpf .oge p (broadcastTo S264x512 y broadcasts_S1x512_S264x512) (ix2 f n)
      = BitVec.ofBool (decide (y (ix2 0 n) ≤ p (ix2 f n))) := by
  have e : broadcastTo S264x512 y broadcasts_S1x512_S264x512 (ix2 f n) = y (ix2 0 n) := by
    pointwise
  rw [← e]
  rfl

/-- What is kept of a channel. -/
theorem kept_at (p : FVec Ideal S264x512 .f32) (f : Fin 264) (n : Fin 512) :
    kept p (ix2 f n) = BitVec.ofBool (decide (Select.threshold (fun g => p (ix2 g n)) ≤ p (ix2 f n))) := by
  refine (not_below p _ f n).trans ?_
  rw [top_at, channel_popped, channel_columns]
  rfl

end Cert.Values

end
-- ==== Proof.Values.Tables.lean ====
module

public import proofs.«01_k».proof.Proof.Gen.ReferenceIdeal
public import Idealize.ShloMosaic.Lib.Pointwise

@[expose] public section

/-! # The tables of the transform

Cosine and sine of the angle of frequency `f` at time `t`, and the weights of the inverse transform, as the
programs build them, over the extended reals. Every angle is real, so every entry of the two tables is real, and
at no place are both zero. -/

noncomputable section

namespace Cert.Values

open Cert.ReferenceIdeal Cert.ReferenceIdeal.Gen Idealize.ShloMosaic

/-- The angles: `f t` modulo 512, times a turn's 512th part. -/
def angles : FVec Ideal S257x512 .f32 :=
  mulf (sitofp .f32 (Host.remsi (muli
      (broadcastInDim S257x512 ![0, 1] bcast_S257x1_S257x512_0_1 (broadcastInDim S257x1 ![0] bcast_S257_S257x1_0 (iotaInDim S257 32 0)))
      (broadcastInDim S257x512 ![0, 1] bcast_S1x512_S257x512_0_1 (broadcastInDim S1x512 ![1] bcast_S512_S1x512_1 (iotaInDim S512 32 0))))
      (broadcastInDim S257x512 ![] bcast_S_S257x512 (constantI S_ 32 512#32))))
    (broadcastInDim S257x512 ![] bcast_S_S257x512 (mulf (Host.atan (constant S_ .f32 0x3F800000#32)) (constant S_ .f32 0x3C800000#32)))

/-- The cosines and the sines. -/
def cosT : FVec Ideal S257x512 .f32 := Host.cos angles
def sinT : FVec Ideal S257x512 .f32 := Host.sin angles

/-- The weights of the inverse transform: the first and the last frequency count once, the others twice. -/
def weights : FVec Ideal S257 .f32 :=
  select (ori (cmpi .eq (iotaInDim S257 32 0) (broadcastInDim S257 ![] bcast_S_S257 (constantI S_ 32 0#32)))
      (cmpi .eq (iotaInDim S257 32 0) (broadcastInDim S257 ![] bcast_S_S257 (constantI S_ 32 256#32))))
    (broadcastInDim S257 ![] bcast_S_S257 (constant S_ .f32 0x3B000000#32))
    (broadcastInDim S257 ![] bcast_S_S257 (constant S_ .f32 0x3B800000#32))

/-- A table times the weights of its rows. -/
def weighted (a : FVec Ideal S257x512 .f32) : FVec Ideal S257x512 .f32 :=
  mulf a (broadcastInDim S257x512 ![0, 1] bcast_S257x1_S257x512_0_1 (broadcastInDim S257x1 ![0] bcast_S257_S257x1_0 weights))

/-- The step of the angles is the 512th part of a turn, exactly: the arc tangent of 1 over 64. -/
lemma turn : Ideal.atan (Ideal.ofBits .f32 0x3F800000#32) * Ideal.ofBits .f32 0x3C800000#32
    = ((2 * Real.pi / 512 : ℝ) : EReal) := by
  have one : Ideal.ofBits .f32 0x3F800000#32 = ((1 : ℝ) : EReal) := by
    simp [Ideal.ofBits, Ideal.ieee, -EReal.coe_mul]
    norm_num
  have part : Ideal.ofBits .f32 0x3C800000#32 = ((1 / 64 : ℝ) : EReal) := by
    simp [Ideal.ofBits, Ideal.ieee, -EReal.coe_mul]
    norm_num
  rw [one, part, Ideal.atan_coe, Real.arctan_one, ← EReal.coe_mul]
  congr 1
  ring

/-- Every angle is real. -/
lemma angle_real (i : S257x512.Idx) : ∃ r : ℝ, angles i = (r : EReal) := by
  have key : ∀ z : ℝ, angles i = (z : EReal) * (Ideal.atan (Ideal.ofBits .f32 0x3F800000#32) * Ideal.ofBits .f32 0x3C800000#32) →
      angles i = ((z * (2 * Real.pi / 512) : ℝ) : EReal) :=
    fun z h => by rw [h, turn, EReal.coe_mul]
  exact ⟨_, key _ rfl⟩

/-- Cosine and sine of an angle: two reals, not both zero. -/
theorem circle (i : S257x512.Idx) :
    ∃ c s : ℝ, cosT i = (c : EReal) ∧ sinT i = (s : EReal) ∧ (c ≠ 0 ∨ s ≠ 0) := by
  obtain ⟨r, hr⟩ := angle_real i
  refine ⟨Real.cos r, Real.sin r, ?_, ?_, ?_⟩
  · show Ideal.cos (angles i) = _
    rw [hr]; rfl
  · show Ideal.sin (angles i) = _
    rw [hr]; rfl
  · by_contra h
    push Not at h
    have := Real.cos_sq_add_sin_sq r
    rw [h.1, h.2] at this
    norm_num at this

end Cert.Values

end
-- ==== Proof.Values.KernelTables.lean ====
module

public import proofs.«01_k».proof.Proof.Values.Tables
public import proofs.«01_k».proof.Proof.Gen.KernelIdeal.Frame

@[expose] public section

/-! # The kernel's tables

The four tables that the kernel's host part leaves for the launch, over the extended reals: cosines over sines,
each padded to 264 rows; what rounding took from them, which is nothing; and the weighted tables of the inverse
transform, padded to 264 columns. -/

noncomputable section

namespace Cert.Values

open Cert.KernelIdeal Cert.KernelIdeal.Gen Idealize.ShloMosaic Idealize.ShloMosaic.TcCoe Idealize.SL.Sem

/-- A table with seven rows of zeros below. -/
def tall (a : FVec Ideal S257x512 .f32) : FVec Ideal S264x512 .f32 :=
  concatenate S264x512 0 [⟨S257x512, a⟩, ⟨S7x512, broadcastInDim S7x512 ![] bcast_S_S7x512 (constant S_ .f32 0x00000000#32)⟩]
    concatenates_S257x512_S7x512_S264x512_d0

/-- Cosines over sines. -/
def stacked (a b : FVec Ideal S257x512 .f32) : FVec Ideal S528x512 .f32 :=
  concatenate S528x512 0 [⟨S264x512, tall a⟩, ⟨S264x512, tall b⟩] concatenates_S264x512_S264x512_S528x512_d0

/-- A table turned, with seven columns of zeros after it. -/
def wide (a : FVec Ideal S257x512 .f32) : FVec Ideal S512x264 .f32 :=
  concatenate S512x264 1 [⟨S512x257, transpose S512x257 [1, 0] a transposes_S257x512_S512x257_1_0⟩,
    ⟨S512x7, broadcastInDim S512x7 ![] bcast_S_S512x7 (constant S_ .f32 0x00000000#32)⟩]
    concatenates_S512x257_S512x7_S512x264_d1

variable (m : (ℓ : Loc nD τ sig) → Buf (Elt Ideal) ℓ) (c : Dev nD)

theorem V_hi : V m c main_call0_v38 = truncf .bf16 (stacked cosT sinT) bitsLt_bf16_f32 := by
  show StableHlo.after hostOps0 _ _ = _
  simp only [hostOps0]
  generalize hu : (fun (a : FVec Ideal S257x512 .f32) (b : FVec Ideal S7x512 .f32) =>
    concatenate S264x512 0 [⟨S257x512, a⟩, ⟨S7x512, b⟩] concatenates_S257x512_S7x512_S264x512_d0) = u
  generalize ht : (fun (a b : FVec Ideal S264x512 .f32) =>
    concatenate S528x512 0 [⟨S264x512, a⟩, ⟨S264x512, b⟩] concatenates_S264x512_S264x512_S528x512_d0) = t
  after_results_simp
  subst hu ht
  rfl

theorem V_lo : V m c main_call0_v41 = truncf .bf16 (subf (stacked cosT sinT)
    (extf .f32 (truncf .bf16 (stacked cosT sinT) bitsLt_bf16_f32 : FVec Ideal S528x512 .bf16) bitsLt_bf16_f32)) bitsLt_bf16_f32 := by
  show StableHlo.after hostOps0 _ _ = _
  simp only [hostOps0]
  generalize hu : (fun (a : FVec Ideal S257x512 .f32) (b : FVec Ideal S7x512 .f32) =>
    concatenate S264x512 0 [⟨S257x512, a⟩, ⟨S7x512, b⟩] concatenates_S257x512_S7x512_S264x512_d0) = u
  generalize ht : (fun (a b : FVec Ideal S264x512 .f32) =>
    concatenate S528x512 0 [⟨S264x512, a⟩, ⟨S264x512, b⟩] concatenates_S264x512_S264x512_S528x512_d0) = t
  after_results_simp
  subst hu ht
  rfl

theorem V_cos : V m c main_call0_v42 = truncf .bf16 (wide (weighted cosT)) bitsLt_bf16_f32 := by
  show StableHlo.after hostOps0 _ _ = _
  simp only [hostOps0]
  after_results_simp
  rfl

theorem V_sin : V m c main_call0_v43 = truncf .bf16 (wide (weighted sinT)) bitsLt_bf16_f32 := by
  show StableHlo.after hostOps0 _ _ = _
  simp only [hostOps0]
  after_results_simp
  rfl

lemma tall_at (a : FVec Ideal S257x512 .f32) (f : Fin 264) (t : Fin 512) :
    tall a (ix2 f t) = if h : f.1 < 257 then a (ix2 ⟨f.1, h⟩ t) else (0 : EReal) := by
  pointwise [tall]

lemma stacked_first (a b : FVec Ideal S257x512 .f32) (f : Fin 264) (t : Fin 512) :
    stacked a b (ix2 ⟨f.1, by omega⟩ t) = tall a (ix2 f t) := by
  pointwise [stacked]

lemma stacked_second (a b : FVec Ideal S257x512 .f32) (f : Fin 264) (t : Fin 512) :
    stacked a b (ix2 ⟨264 + f.1, by omega⟩ t) = tall b (ix2 f t) := by
  pointwise [stacked]

lemma wide_at (a : FVec Ideal S257x512 .f32) (t : Fin 512) (f : Fin 264) :
    wide a (ix2 t f) = if h : f.1 < 257 then a (ix2 ⟨f.1, h⟩ t) else (0 : EReal) := by
  pointwise [wide]

end Cert.Values

end
-- ==== Proof.Values.Reference.lean ====
module

public import proofs.«01_k».proof.Proof.Values.Tables
public import proofs.«01_k».proof.Proof.Gen.ReferenceIdeal.Run

@[expose] public section

/-! # The reference's result, piece by piece -/

noncomputable section

namespace Cert.Values

open Cert.ReferenceIdeal Cert.ReferenceIdeal.Gen Idealize.ShloMosaic Idealize.ShloMosaic.TcCoe Idealize.SL.Sem

/-- One half of the transform of every series. -/
def transformed (a : FVec Ideal S257x512 .f32) (x : FVec Ideal S128x512x512 .f32) : FVec Ideal S128x512x257 .f32 :=
  Host.dotGeneral dot_S128x512x512_S257x512_S128x512x257_2_1_01_0_n_n none
    (transpose S128x512x512 [0, 2, 1] x transposes_S128x512x512_S128x512x512_0_2_1) a

/-- The magnitudes. -/
def magnitude (x : FVec Ideal S128x512x512 .f32) : FVec Ideal S128x512x257 .f32 :=
  Host.sqrt (addf (mulf (transformed cosT x) (transformed cosT x)) (mulf (transformed sinT x) (transformed sinT x)))

/-- The places of the twenty largest. -/
def leading (x : FVec Ideal S128x512x512 .f32) : IVec S128x20x512 32 :=
  transpose S128x20x512 [0, 2, 1]
    (Host.topK S128x512x20 2 (FloatOps.cmpfTotal (F := Ideal) (φ := .f32) .gt) (magnitude x)
      sliceFits_S128x512x257_S128x512x20).2 transposes_S128x512x20_S128x20x512_0_2_1

/-- An index counted from the end if it is negative. -/
def wrapped {s : Shape} (h : S_.BroadcastsInDim s (![] : Fin 0 → Fin s.rank)) (n : BitVec 32) (a : IVec s 32) : IVec s 32 :=
  select (cmpi .slt a (broadcastInDim s ![] h (constantI S_ 32 0#32)))
    (addi a (broadcastInDim s ![] h (constantI S_ 32 n))) a

/-- The batch entry, frequency and channel that each of the twenty marks. -/
def marks (x : FVec Ideal S128x512x512 .f32) : IVec S128x20x512x3 32 :=
  concatenate S128x20x512x3 3
    [⟨S128x20x512x1, broadcastInDim S128x20x512x1 ![0, 1, 2] bcast_S128x20x512_S128x20x512x1_0_1_2
        (broadcastInDim S128x20x512 ![0, 1, 2] bcast_S128x1x1_S128x20x512_0_1_2
          (wrapped bcast_S_S128x1x1 128#32 (broadcastInDim S128x1x1 ![0] bcast_S128_S128x1x1_0 (iotaInDim S128 32 0))))⟩,
     ⟨S128x20x512x1, broadcastInDim S128x20x512x1 ![0, 1, 2] bcast_S128x20x512_S128x20x512x1_0_1_2
        (wrapped bcast_S_S128x20x512 257#32 (leading x))⟩,
     ⟨S128x20x512x1, broadcastInDim S128x20x512x1 ![0, 1, 2] bcast_S128x20x512_S128x20x512x1_0_1_2
        (broadcastInDim S128x20x512 ![0, 1, 2] bcast_S1x1x512_S128x20x512_0_1_2
          (wrapped bcast_S_S1x1x512 512#32 (broadcastInDim S1x1x512 ![2] bcast_S512_S1x1x512_2 (iotaInDim S512 32 0))))⟩]
    concatenates_S128x20x512x1_S128x20x512x1_S128x20x512x1_S128x20x512x3_d3

/-- The mask: one at the marks, zero elsewhere. -/
def mask (x : FVec Ideal S128x512x512 .f32) : FVec Ideal S128x257x512 .f32 :=
  Host.scatter scatter_S128x257x512_S128x20x512x3_S128x20x512_n_012_012_3 (fun _ b => b)
    (broadcastInDim S128x257x512 ![] bcast_S_S128x257x512 (constant S_ .f32 0x00000000#32)) (marks x)
    (broadcastInDim S128x20x512 ![] bcast_S_S128x20x512 (constant S_ .f32 0x3F800000#32))

/-- One half of the inverse transform of the masked spectrum. -/
def back (a : FVec Ideal S257x512 .f32) (x : FVec Ideal S128x512x512 .f32) : FVec Ideal S128x512x512 .f32 :=
  transpose S128x512x512 [0, 2, 1]
    (Host.dotGeneral dot_S128x257x512_S257x512_S128x512x512_1_0_02_1_n_n none
      (mulf (transpose S128x257x512 [0, 2, 1] (transformed a x) transposes_S128x512x257_S128x257x512_0_2_1) (mask x))
      (weighted a)) transposes_S128x512x512_S128x512x512_0_2_1

/-- The reference's function of its first argument. -/
def reference (x : FVec Ideal S128x512x512 .f32) : FVec Ideal S128x512x512 .f32 :=
  subf x (addf (back cosT x) (back sinT x))

theorem result_eq (m : (ℓ : Loc nD τ sig) → Buf (Elt Ideal) ℓ) (c : Dev nD) :
    Cert.ReferenceIdeal.Value.res_out0 m c = reference (m ((c.tc : Thread nD τ).loc main_arg0)) := by
  unfold Cert.ReferenceIdeal.Value.res_out0 Cert.ReferenceIdeal.Value.res_main_v92
  rfl

/-- One place of a half of the transform. -/
def part (a : FVec Ideal S257x512 .f32) (x : FVec Ideal S128x512x512 .f32) (b : Fin 128) (n : Fin 512) (f : Fin 257) : EReal :=
  ∑ t : Fin 512, x (ix3 b t n) * a (ix2 f t)

lemma transformed_at (a : FVec Ideal S257x512 .f32) (x : FVec Ideal S128x512x512 .f32) (b : Fin 128) (n : Fin 512) (f : Fin 257) :
    transformed a x (ix3 b n f) = part a x b n f := by
  pointwise [transformed, part]

/-- The squared magnitude at a place. -/
def pow (x : FVec Ideal S128x512x512 .f32) (b : Fin 128) (n : Fin 512) (f : Fin 257) : EReal :=
  part cosT x b n f * part cosT x b n f + part sinT x b n f * part sinT x b n f

lemma magnitude_at (x : FVec Ideal S128x512x512 .f32) (b : Fin 128) (n : Fin 512) (f : Fin 257) :
    magnitude x (ix3 b n f) = Ideal.sqrt (pow x b n f) := by
  show Ideal.sqrt (transformed cosT x (ix3 b n f) * transformed cosT x (ix3 b n f)
    + transformed sinT x (ix3 b n f) * transformed sinT x (ix3 b n f)) = _
  rw [transformed_at, transformed_at]
  rfl

lemma inverse_at (r w : FVec Ideal S128x257x512 .f32) (a : FVec Ideal S257x512 .f32) (b : Fin 128) (t n : Fin 512) :
    transpose S128x512x512 [0, 2, 1]
      (Host.dotGeneral dot_S128x257x512_S257x512_S128x512x512_1_0_02_1_n_n none (mulf r w) a)
      transposes_S128x512x512_S128x512x512_0_2_1 (ix3 b t n)
      = ∑ f : Fin 257, r (ix3 b f n) * w (ix3 b f n) * a (ix2 f t) := by
  pointwise

lemma turned_at (y : FVec Ideal S128x512x257 .f32) (b : Fin 128) (f : Fin 257) (n : Fin 512) :
    transpose S128x257x512 [0, 2, 1] y transposes_S128x512x257_S128x257x512_0_2_1 (ix3 b f n) = y (ix3 b n f) := by
  pointwise

lemma back_at (a : FVec Ideal S257x512 .f32) (x : FVec Ideal S128x512x512 .f32) (b : Fin 128) (t n : Fin 512) :
    back a x (ix3 b t n) = ∑ f : Fin 257, part a x b n f * mask x (ix3 b f n) * weighted a (ix2 f t) := by
  refine (inverse_at _ _ _ b t n).trans (Finset.sum_congr rfl fun f _ => ?_)
  rw [turned_at, transformed_at]

end Cert.Values

end
-- ==== Proof.Values.Scatter.lean ====
module

public import Idealize.ShloMosaic.Lib.Pointwise
public import Idealize.ShloMosaic.Lib.Routing.OpsPair

@[expose] public section

/-! # A scatter of one value by triples of index words

`z.at[i, j, k].set(v)` for arrays of index words: at a place the result is `v` if some triple of words
names the place, and what was there before otherwise. -/

noncomputable section

namespace Cert.Values

open Idealize.ShloMosaic

/-- A fold that overwrites by one value. -/
lemma foldl_set {α β : Type} (P : β → Prop) [DecidablePred P] (v : α) (l : List β) (a : α) :
    l.foldl (fun r n => if P n then v else r) a = if ∃ n ∈ l, P n then v else a := by
  induction l generalizing a with
  | nil => simp
  | cons n l ih =>
    rw [List.foldl_cons, ih]
    by_cases h : P n
    · simp [h]
    · simp [h]

open Classical in
/-- A scatter of one value, read at a place. -/
lemma scatter_set {α : Type} {s si u : Shape} {w : Nat} (d : ScatterDims s si u) (x : s.Idx → α)
    (idx : IVec si w) (v : α) (upd : u.Idx → α) (hu : ∀ j, upd j = v) (i : s.Idx) :
    Host.scatter d (fun _ b => b) x idx upd i = if ∃ j : u.Idx, d.resultIdx? j idx = some i then v else x i := by
  rw [Routing.scatter_at]
  simp only [hu]
  rw [foldl_set (fun n => d.resultIdx? (u.rowMajor.symm n) idx = some i)]
  congr 1
  refine propext ⟨fun ⟨n, _, h⟩ => ⟨_, h⟩, fun ⟨j, h⟩ => ⟨u.rowMajor j, List.mem_finRange _, ?_⟩⟩
  rw [Equiv.symm_apply_apply]
  exact h

variable {A B C N K M : ℕ}

/-- Where an update lands: the triple of words at its place, read signed. -/
theorem lands (d : ScatterDims ⟨3, ![A, B, C]⟩ ⟨4, ![N, K, M, 3]⟩ ⟨3, ![N, K, M]⟩)
    (hi : d.insertedWindowDims = [0, 1, 2]) (hs : d.scatterDimsToOperandDims = [0, 1, 2])
    (hv : d.indexVectorDim = 3) (idx : IVec ⟨4, ![N, K, M, 3]⟩ 32) (j : (⟨3, ![N, K, M]⟩ : Shape).Idx)
    (i : (⟨3, ![A, B, C]⟩ : Shape).Idx) :
    d.resultIdx? j idx = some i ↔ ∀ q : Fin 3, (idx (ix4 (j 0) (j 1) (j 2) q)).toInt = ((i q).1 : ℤ) := by
  have hu : d.updateWindowDims = [] := List.eq_nil_of_length_eq_zero (by
    rw [d.window_length]
    show (Shape.kept (⟨3, ![A, B, C]⟩ : Shape) d.insertedWindowDims).length = 0
    rw [hi]
    rfl)
  have hk : d.siKept = [0, 1, 2] := by
    show (List.finRange 4).filter (fun x => decide (x.val ≠ d.indexVectorDim)) = _
    rw [hv]
    rfl
  have hu' : d.uScatter = [0, 1, 2] := by
    show Shape.kept (⟨3, ![N, K, M]⟩ : Shape) d.updateWindowDims = _
    rw [hu]
    rfl
  have hm : ∀ q : Fin 3, q ∈ d.scatterDimsToOperandDims := fun q => by rw [hs]; fin_cases q <;> simp
  have hw : ∀ q : Fin 3, d.window j q = 0 := fun q => by
    unfold ScatterDims.window
    refine dif_neg fun h => ?_
    have := (List.mem_filter.1 h).2
    rw [hi] at this
    revert this
    fin_cases q <;> simp
  have pick : ∀ (l : List (Fin 3)) (n : ℕ) (h : n < l.length) (m : Fin 3), l = [0, 1, 2] → n = m.val → l[n]'h = m := by
    rintro _ _ h m rfl rfl
    fin_cases m <;> rfl
  have hsi : ∀ q : Fin 3, d.siIdx j ⟨d.scatterDimsToOperandDims.idxOf q, List.idxOf_lt_length_iff.2 (hm q)⟩
      = ix4 (j 0) (j 1) (j 2) q := fun q => by
    funext b
    refine Fin.ext ?_
    unfold ScatterDims.siIdx
    match b with
    | ⟨0, _⟩ =>
      rw [dif_neg (by rw [hv]; exact (by decide : (0 : ℕ) ≠ 3))]
      unfold ScatterDims.siCoord
      simp only [Fin.val_cast]
      rw [pick _ _ _ 0 hu' (by rw [hk]; rfl)]
      rfl
    | ⟨1, _⟩ =>
      rw [dif_neg (by rw [hv]; exact (by decide : (1 : ℕ) ≠ 3))]
      unfold ScatterDims.siCoord
      simp only [Fin.val_cast]
      rw [pick _ _ _ 1 hu' (by rw [hk]; rfl)]
      rfl
    | ⟨2, _⟩ =>
      rw [dif_neg (by rw [hv]; exact (by decide : (2 : ℕ) ≠ 3))]
      unfold ScatterDims.siCoord
      simp only [Fin.val_cast]
      rw [pick _ _ _ 2 hu' (by rw [hk]; rfl)]
      rfl
    | ⟨3, _⟩ =>
      rw [dif_pos (by rw [hv])]
      show d.scatterDimsToOperandDims.idxOf q = q.1
      rw [hs]
      fin_cases q <;> rfl
  rw [Routing.resultIdx?_eq_some]
  refine forall_congr' fun (q : Fin 3) => ?_
  rw [hw q]
  unfold ScatterDims.start
  rw [dif_pos (hm q), hsi q]
  simp

end Cert.Values

end
-- ==== Proof.Select.TopK.lean ====
module

public import Idealize.ShloMosaic.Lib.Pointwise
public import Idealize.ShloMosaic.Lib.SortFacts
public import Idealize.ShloMosaic.Lib.WordCmp

@[expose] public section

/-! # The host's top-k read at a place

`lax.top_k` of an array [A, B, N] along its last axis, over the extended reals: the entries of a row
are listed downwards by one ordering of the N places. -/

noncomputable section

namespace Cert.Select

open Idealize.ShloMosaic

variable {A B N K : ℕ}

/-- The ordering of a row: entry `k` is the place of the `k`-th largest. -/
def order (g : Fin N → EReal) : Fin N → Fin N :=
  sortedFrom fun k k' => FloatOps.cmpfTotal (F := Ideal) (φ := .f32) .gt (g k) (g k') == 1#1

lemma greater (x y : EReal) :
    (FloatOps.cmpfTotal (F := Ideal) (φ := .f32) .gt x y == 1#1) = decide (y < x) := by
  show (BitVec.ofBool (decide (y < x)) == 1#1) = decide (y < x)
  by_cases h : y < x <;> simp [h]

lemma order_onto (g : Fin N → EReal) : Function.Surjective (order g) := sortedFrom_surjective _

/-- The ordering lists the entries downwards. -/
lemma order_anti (g : Fin N → EReal) (i j : Fin N) (h : i.1 < j.1) : g (order g j) ≤ g (order g i) := by
  have e : (fun k k' => FloatOps.cmpfTotal (F := Ideal) (φ := .f32) .gt (g k) (g k') == 1#1)
      = fun k k' => decide (g k' < g k) := funext fun k => funext fun k' => greater _ _
  have := sortedFrom_noInversion (fun k k' : Fin N => decide (g k' < g k)) (fun k k' => decide (g k' < g k))
    (fun a b h => by simpa using (of_decide_eq_true h).le) (fun _ _ h => h)
    (fun a b c h1 h2 => by
      simp only [decide_eq_false_iff_not, not_lt] at h1 h2 ⊢
      exact h1.trans h2) i j h
  unfold order
  rw [e]
  simpa using this

/-- A row of an array. -/
def row (q : (⟨3, ![A, B, N]⟩ : Shape).Idx → EReal) (b : Fin A) (n : Fin B) : Fin N → EReal :=
  fun f => q (ix3 b n f)

lemma along_last (j : (⟨3, ![A, B, N]⟩ : Shape).Idx) (k : Fin N) :
    j.along (2 : Fin 3) k = ix3 (j 0) (j 1) k := by
  funext a
  match a with
  | ⟨0, _⟩ => rfl
  | ⟨1, _⟩ => rfl
  | ⟨2, _⟩ => rfl

/-- The ordering along the last axis is the row's. -/
lemma sorted_last (q : (⟨3, ![A, B, N]⟩ : Shape).Idx → EReal) (j : (⟨3, ![A, B, N]⟩ : Shape).Idx) :
    (fun k k' : Fin N => FloatOps.cmpfTotal (F := Ideal) (φ := .f32) .gt
        (q (j.along (2 : Fin 3) k)) (q (j.along (2 : Fin 3) k')) == 1#1)
      = fun k k' => FloatOps.cmpfTotal (F := Ideal) (φ := .f32) .gt
        (row q (j 0) (j 1) k) (row q (j 0) (j 1) k') == 1#1 := by
  funext k k'
  rw [along_last, along_last]
  rfl

/-- The first places of a longer row. -/
def inRow (hK : K ≤ N) (j : (⟨3, ![A, B, K]⟩ : Shape).Idx) : (⟨3, ![A, B, N]⟩ : Shape).Idx :=
  ix3 (j 0) (j 1) ((j 2).castLE hK)

lemma slice_first {α : Type} (hK : K ≤ N) (x : (⟨3, ![A, B, N]⟩ : Shape).Idx → α)
    (h : (⟨3, ![A, B, N]⟩ : Shape).Slices (fun _ => 0) ⟨3, ![A, B, K]⟩) (j : (⟨3, ![A, B, K]⟩ : Shape).Idx) :
    extractStridedSlice ⟨3, ![A, B, K]⟩ (fun _ => 0) x h j = x (inRow hK j) := by
  unfold extractStridedSlice
  congr 1
  funext a
  match a with
  | ⟨0, _⟩ => exact Fin.ext (Nat.zero_add _)
  | ⟨1, _⟩ => exact Fin.ext (Nat.zero_add _)
  | ⟨2, _⟩ => exact Fin.ext (Nat.zero_add _)

/-- The values of the top-k. -/
theorem topK_value (hK : K ≤ N) (q : (⟨3, ![A, B, N]⟩ : Shape).Idx → EReal)
    (h : (⟨3, ![A, B, N]⟩ : Shape).Slices (fun _ => 0) ⟨3, ![A, B, K]⟩)
    (b : Fin A) (n : Fin B) (k : Fin K) :
    (Host.topK ⟨3, ![A, B, K]⟩ 2 (FloatOps.cmpfTotal (F := Ideal) (φ := .f32) .gt) q h).1 (ix3 b n k)
      = row q b n (order (row q b n) (k.castLE hK)) := by
  dsimp only [Host.topK]
  rw [slice_first hK]
  dsimp only [Host.sort2]
  rw [dif_pos (show 2 < 3 by decide)]
  refine (congrArg (fun B => q ((inRow hK (ix3 b n k)).along (2 : Fin 3)
    (sortedFrom B (inRow hK (ix3 b n k) 2)))) (sorted_last q _)).trans ?_
  exact congrArg q (along_last _ _)

/-- The places of the top-k, as words. -/
theorem topK_place (hK : K ≤ N) (q : (⟨3, ![A, B, N]⟩ : Shape).Idx → EReal)
    (h : (⟨3, ![A, B, N]⟩ : Shape).Slices (fun _ => 0) ⟨3, ![A, B, K]⟩)
    (b : Fin A) (n : Fin B) (k : Fin K) :
    (Host.topK ⟨3, ![A, B, K]⟩ 2 (FloatOps.cmpfTotal (F := Ideal) (φ := .f32) .gt) q h).2 (ix3 b n k)
      = BitVec.ofNat 32 (order (row q b n) (k.castLE hK)).1 := by
  dsimp only [Host.topK]
  rw [slice_first hK]
  dsimp only [Host.sort2]
  rw [dif_pos (show 2 < 3 by decide)]
  refine (congrArg (fun B => BitVec.ofNat 32 (((inRow hK (ix3 b n k)).along (2 : Fin 3)
    (sortedFrom B (inRow hK (ix3 b n k) 2))) 2).1) (sorted_last q _)).trans ?_
  exact congrArg (fun j : (⟨3, ![A, B, N]⟩ : Shape).Idx => BitVec.ofNat 32 (j 2).1) (along_last _ _)

end Cert.Select

end
-- ==== Proof.Values.Mask.lean ====
module

public import proofs.«01_k».proof.Proof.Values.Reference
public import proofs.«01_k».proof.Proof.Values.Scatter
public import proofs.«01_k».proof.Proof.Select.TopK
public import Idealize.ShloMosaic.Lib.Routing.OpsPair
public import Idealize.ShloMosaic.Lib.IdealHost

@[expose] public section

/-! # The reference's mask

The mask is one at the frequencies of the twenty largest magnitudes of a series and zero at the others. -/

noncomputable section

namespace Cert.Values

open Cert.ReferenceIdeal Cert.ReferenceIdeal.Gen Idealize.ShloMosaic

/-- The ordering of a series' magnitudes. -/
def ranking (x : FVec Ideal S128x512x512 .f32) (b : Fin 128) (n : Fin 512) : Fin 257 → Fin 257 :=
  Select.order (Select.row (magnitude x) b n)

lemma leading_at (x : FVec Ideal S128x512x512 .f32) (b : Fin 128) (k : Fin 20) (n : Fin 512) :
    leading x (ix3 b k n) = BitVec.ofNat 32 (ranking x b n (k.castLE (by decide))).1 := by
  have e : ∀ y : IVec S128x512x20 32,
      transpose S128x20x512 [0, 2, 1] y transposes_S128x512x20_S128x20x512_0_2_1 (ix3 b k n) = y (ix3 b n k) := fun y => by
    pointwise
  refine (e _).trans ?_
  exact Select.topK_place (by decide) (magnitude x) sliceFits_S128x512x257_S128x512x20 b n k

/-- A small index is not negative, so it is kept. -/
lemma wrapped_at {s : Shape} (h : S_.BroadcastsInDim s (![] : Fin 0 → Fin s.rank)) (n : BitVec 32) (a : IVec s 32)
    (i : s.Idx) (v : ℕ) (hv : v < 512) (ha : a i = BitVec.ofNat 32 v) : wrapped h n a i = BitVec.ofNat 32 v := by
  rw [← ha]
  refine Routing.wrap_of_lt (a i) _ ?_
  rw [ha, BitVec.toNat_ofNat]
  omega

lemma toInt_small (v : ℕ) (hv : v < 512) : (BitVec.ofNat 32 v).toInt = (v : ℤ) := by
  rw [BitVec.toInt_eq_toNat_cond, BitVec.toNat_ofNat]
  split <;> omega

/-- The three joined arrays, read back. -/
lemma joined (u0 u1 u2 : IVec S128x20x512x1 32) (b : Fin 128) (k : Fin 20) (n : Fin 512) :
    concatenate S128x20x512x3 3 [⟨S128x20x512x1, u0⟩, ⟨S128x20x512x1, u1⟩, ⟨S128x20x512x1, u2⟩]
        concatenates_S128x20x512x1_S128x20x512x1_S128x20x512x1_S128x20x512x3_d3 (ix4 b k n 0) = u0 (ix4 b k n 0)
    ∧ concatenate S128x20x512x3 3 [⟨S128x20x512x1, u0⟩, ⟨S128x20x512x1, u1⟩, ⟨S128x20x512x1, u2⟩]
        concatenates_S128x20x512x1_S128x20x512x1_S128x20x512x1_S128x20x512x3_d3 (ix4 b k n 1) = u1 (ix4 b k n 0)
    ∧ concatenate S128x20x512x3 3 [⟨S128x20x512x1, u0⟩, ⟨S128x20x512x1, u1⟩, ⟨S128x20x512x1, u2⟩]
        concatenates_S128x20x512x1_S128x20x512x1_S128x20x512x1_S128x20x512x3_d3 (ix4 b k n 2) = u2 (ix4 b k n 0) := by
  refine ⟨?_, ?_, ?_⟩ <;> pointwise

lemma spread (u : IVec S128x20x512 32) (b : Fin 128) (k : Fin 20) (n : Fin 512) :
    broadcastInDim S128x20x512x1 ![0, 1, 2] bcast_S128x20x512_S128x20x512x1_0_1_2 u (ix4 b k n 0) = u (ix3 b k n) := by
  pointwise

lemma spread_entry (u : IVec S128x1x1 32) (b : Fin 128) (k : Fin 20) (n : Fin 512) :
    broadcastInDim S128x20x512 ![0, 1, 2] bcast_S128x1x1_S128x20x512_0_1_2 u (ix3 b k n) = u (ix3 b 0 0) := by
  pointwise

lemma spread_channel (u : IVec S1x1x512 32) (b : Fin 128) (k : Fin 20) (n : Fin 512) :
    broadcastInDim S128x20x512 ![0, 1, 2] bcast_S1x1x512_S128x20x512_0_1_2 u (ix3 b k n) = u (ix3 0 0 n) := by
  pointwise

lemma entry_iota (b : Fin 128) :
    broadcastInDim S128x1x1 ![0] bcast_S128_S128x1x1_0 (iotaInDim S128 32 0) (ix3 b 0 0) = BitVec.ofNat 32 b.1 := by
  pointwise

lemma channel_iota (n : Fin 512) :
    broadcastInDim S1x1x512 ![2] bcast_S512_S1x1x512_2 (iotaInDim S512 32 0) (ix3 0 0 n) = BitVec.ofNat 32 n.1 := by
  pointwise

/-- The words of a mark. -/
lemma marks_at (x : FVec Ideal S128x512x512 .f32) (b : Fin 128) (k : Fin 20) (n : Fin 512) :
    (marks x (ix4 b k n 0)).toInt = (b.1 : ℤ)
    ∧ (marks x (ix4 b k n 1)).toInt = ((ranking x b n (k.castLE (by decide))).1 : ℤ)
    ∧ (marks x (ix4 b k n 2)).toInt = (n.1 : ℤ) := by
  obtain ⟨j0, j1, j2⟩ := joined _ _ _ b k n
  refine ⟨?_, ?_, ?_⟩
  · refine (congrArg BitVec.toInt ((j0.trans (spread _ b k n)).trans (spread_entry _ b k n))).trans ?_
    rw [wrapped_at _ _ _ _ b.1 (by omega) (entry_iota b), toInt_small _ (by omega)]
  · refine (congrArg BitVec.toInt (j1.trans (spread _ b k n))).trans ?_
    rw [wrapped_at _ _ _ _ _ (by omega) (leading_at x b k n), toInt_small _ (by omega)]
  · refine (congrArg BitVec.toInt ((j2.trans (spread _ b k n)).trans (spread_channel _ b k n))).trans ?_
    rw [wrapped_at _ _ _ _ n.1 (by omega) (channel_iota n), toInt_small _ (by omega)]

open Classical in
/-- The mask at a place. -/
theorem mask_at (x : FVec Ideal S128x512x512 .f32) (b : Fin 128) (f : Fin 257) (n : Fin 512) :
    mask x (ix3 b f n) = if ∃ i : Fin 257, i.1 < 20 ∧ f = ranking x b n i then (1 : EReal) else 0 := by
  refine (scatter_set _ _ (marks x) (Ideal.ofBits .f32 0x3F800000#32) _ (fun _ => rfl) (ix3 b f n)).trans ?_
  rw [Ideal.ofBits_one_f32]
  refine (congrArg (ite _ (1 : EReal)) (Ideal.ofBits_zero_f32)).trans ?_
  refine if_congr ⟨?_, ?_⟩ rfl rfl
  · rintro ⟨j, hj⟩
    have h := (lands _ rfl rfl rfl (marks x) j (ix3 b f n)).1 hj
    obtain ⟨m0, m1, m2⟩ := marks_at x (j 0) (j 1) (j 2)
    obtain rfl : (j 0 : Fin 128) = b := Fin.ext (by exact_mod_cast m0.symm.trans (h 0))
    obtain rfl : (j 2 : Fin 512) = n := Fin.ext (by exact_mod_cast m2.symm.trans (h 2))
    have e1 := Int.ofNat.inj (m1.symm.trans (h 1))
    exact ⟨Fin.castLE (show 20 ≤ 257 by decide) (j 1), (j 1).2, Fin.ext e1.symm⟩
  · rintro ⟨i, hi, e⟩
    refine ⟨ix3 b ⟨i.1, hi⟩ n, (lands _ rfl rfl rfl (marks x) _ _).2 ?_⟩
    obtain ⟨m0, m1, m2⟩ := marks_at x b ⟨i.1, hi⟩ n
    intro q
    match q with
    | ⟨0, _⟩ => exact m0
    | ⟨1, _⟩ => exact m1.trans (congrArg (fun g : Fin 257 => (g.1 : ℤ)) e.symm)
    | ⟨2, _⟩ => exact m2

end Cert.Values

end
-- ==== Proof.Values.Infinite.lean ====
module

public import Idealize.ShloMosaic.PureOps.Ideal
public import Mathlib.Algebra.BigOperators.Group.Finset.Basic

@[expose] public section

/-! # Sums, squares and square roots of extended reals

A sum with an infinite term is infinite, an infinite number's square is the greatest number, and the square root
keeps the order of the numbers that are not negative. -/

namespace Cert.Values

open Idealize.ShloMosaic

/-- An infinite number. -/
def Infinite (a : EReal) : Prop := a = ⊤ ∨ a = ⊥

lemma infinite_add (a b : EReal) (h : Infinite a ∨ Infinite b) : Infinite (a + b) := by
  unfold Infinite at *
  induction a <;> induction b <;> simp_all

lemma infinite_sum {ι : Type*} (s : Finset ι) (g : ι → EReal) (i : ι) (hi : i ∈ s) (h : Infinite (g i)) :
    Infinite (∑ j ∈ s, g j) := by
  classical
  rw [← Finset.add_sum_erase s g hi]
  exact infinite_add _ _ (.inl h)

lemma infinite_mul (a : EReal) (c : ℝ) (hc : c ≠ 0) (h : Infinite a) : Infinite (a * (c : EReal)) := by
  rcases lt_or_gt_of_ne hc with hc | hc <;> rcases h with rfl | rfl
  · exact .inr (EReal.top_mul_coe_of_neg hc)
  · exact .inl (EReal.bot_mul_coe_of_neg hc)
  · exact .inl (EReal.top_mul_coe_of_pos hc)
  · exact .inr (EReal.bot_mul_coe_of_pos hc)

lemma infinite_square (a : EReal) (h : Infinite a) : a * a = ⊤ := by
  rcases h with rfl | rfl <;> simp

lemma square_nonneg (a : EReal) : 0 ≤ a * a := by
  induction a with
  | bot => simp
  | top => simp
  | coe r => exact_mod_cast mul_self_nonneg r

lemma squares_top (a b : EReal) (h : Infinite a ∨ Infinite b) : a * a + b * b = ⊤ := by
  have ne : ∀ c : EReal, c * c ≠ ⊥ := fun c hc => by
    have := square_nonneg c
    rw [hc] at this
    simp at this
  rcases h with h | h
  · rw [infinite_square a h, EReal.top_add_of_ne_bot (ne b)]
  · rw [infinite_square b h, EReal.add_top_of_ne_bot (ne a)]

/-- The square root keeps the order. -/
lemma sqrt_lt (a b : EReal) (ha : 0 ≤ a) (hb : 0 ≤ b) (h : Ideal.sqrt a < Ideal.sqrt b) : a < b := by
  induction a with
  | bot => simp at ha
  | top => simp at h
  | coe r =>
    induction b with
    | bot => simp at hb
    | top => exact EReal.coe_lt_top r
    | coe s =>
      have hr : 0 ≤ r := by exact_mod_cast ha
      have hs : 0 ≤ s := by exact_mod_cast hb
      rw [Ideal.sqrt_coe, Ideal.sqrt_coe, if_neg (not_lt.2 hr), if_neg (not_lt.2 hs)] at h
      have := (Real.sqrt_lt_sqrt_iff hr).1 (by exact_mod_cast h)
      exact_mod_cast this

lemma sqrt_le (a b : EReal) (ha : 0 ≤ a) (hb : 0 ≤ b) (h : Ideal.sqrt a ≤ Ideal.sqrt b) : a ≤ b := by
  by_contra hab
  have hba : b < a := not_le.1 hab
  induction b with
  | bot => simp at hb
  | top => simp at hba
  | coe s =>
    induction a with
    | bot => simp at ha
    | top =>
      have hs : 0 ≤ s := by exact_mod_cast hb
      rw [Ideal.sqrt_top, Ideal.sqrt_coe, if_neg (not_lt.2 hs)] at h
      simp at h
    | coe r =>
      have hr : 0 ≤ r := by exact_mod_cast ha
      have hs : 0 ≤ s := by exact_mod_cast hb
      rw [Ideal.sqrt_coe, Ideal.sqrt_coe, if_neg (not_lt.2 hr), if_neg (not_lt.2 hs)] at h
      have h1 : s < r := by exact_mod_cast hba
      have h2 : Real.sqrt r ≤ Real.sqrt s := by exact_mod_cast h
      exact absurd ((Real.sqrt_le_sqrt_iff hs).1 h2) (not_le.2 h1)

end Cert.Values
-- ==== Proof.Values.Leading.lean ====
module

public import proofs.«01_k».proof.Proof.Values.Mask
public import proofs.«01_k».proof.Proof.Values.Infinite
public import proofs.«01_k».proof.Proof.Select.Threshold
public import proofs.«01_k».proof.Proof.Gen.Pre_leading_magnitudes_distinct

@[expose] public section

/-! # What the precondition gives

The precondition states that the 21 largest magnitudes of every series decrease strictly. Then the squared
magnitudes, padded by zeros to 264 places, are ordered as the selection asks, and the argument is finite: a series
with an infinite entry has an infinite magnitude at every frequency, and its leading magnitudes are equal. -/

noncomputable section

namespace Cert.Values

open Cert.ReferenceIdeal Cert.ReferenceIdeal.Gen Idealize.ShloMosaic

/-- The leading magnitudes of every series decrease. -/
def Decreasing (x : FVec Ideal S128x512x512 .f32) : Prop :=
  ∀ (b : Fin 128) (n : Fin 512) (k : Fin 20),
    magnitude x (ix3 b n (ranking x b n ⟨k.1 + 1, by omega⟩)) < magnitude x (ix3 b n (ranking x b n ⟨k.1, by omega⟩))

attribute [local instance] Cert.Pre_leading_magnitudes_distinct.Gen.facts in
/-- The precondition, read. -/
theorem decreasing (x : FVec Ideal S128x512x512 .f32) (a1 a2 a3 a4 a5 a6)
    (h : Cert.Pre_leading_magnitudes_distinct.fn (F := Ideal) x a1 a2 a3 a4 a5 a6 = fun _ => 1#1) : Decreasing x := by
  intro b n k
  have hk := congrFun h (ix3 b n k)
  have h21 : (⟨3, ![128, 512, 257]⟩ : Shape).Slices (fun _ => 0) ⟨3, ![128, 512, 21]⟩ :=
    Cert.Pre_leading_magnitudes_distinct.Facts.sliceFits_S128x512x257_S128x512x21
  have e : ∀ (q : FVec Ideal Cert.Pre_leading_magnitudes_distinct.S128x512x21 .f32),
      cmpf .ogt (extractStridedSlice Cert.Pre_leading_magnitudes_distinct.S128x512x20 ![0, 0, 0] q
          Cert.Pre_leading_magnitudes_distinct.Facts.slices_S128x512x21_S128x512x20_0_0_0)
        (extractStridedSlice Cert.Pre_leading_magnitudes_distinct.S128x512x20 ![0, 0, 1] q
          Cert.Pre_leading_magnitudes_distinct.Facts.slices_S128x512x21_S128x512x20_0_0_1) (ix3 b n k) = 1#1 →
      q (ix3 b n ⟨k.1 + 1, by omega⟩) < q (ix3 b n ⟨k.1, by omega⟩) := fun q hq => by
    have hl : extractStridedSlice Cert.Pre_leading_magnitudes_distinct.S128x512x20 ![0, 0, 0] q
        Cert.Pre_leading_magnitudes_distinct.Facts.slices_S128x512x21_S128x512x20_0_0_0 (ix3 b n k)
          = q (ix3 b n ⟨k.1, by omega⟩) := by
      pointwise
    have hr : extractStridedSlice Cert.Pre_leading_magnitudes_distinct.S128x512x20 ![0, 0, 1] q
        Cert.Pre_leading_magnitudes_distinct.Facts.slices_S128x512x21_S128x512x20_0_0_1 (ix3 b n k)
          = q (ix3 b n ⟨k.1 + 1, by omega⟩) := by
      pointwise
      congr 2
      exact Fin.ext (Nat.add_comm _ _)
    rw [← hl, ← hr]
    exact (WordCmp.ofBool_decide_eq_one_iff _).1 hq
  have w : (Host.topK ⟨3, ![128, 512, 21]⟩ 2 (FloatOps.cmpfTotal (F := Ideal) (φ := .f32) .gt) (magnitude x) h21).1
        (ix3 b n ⟨k.1 + 1, by omega⟩)
      < (Host.topK ⟨3, ![128, 512, 21]⟩ 2 (FloatOps.cmpfTotal (F := Ideal) (φ := .f32) .gt) (magnitude x) h21).1
        (ix3 b n ⟨k.1, by omega⟩) := e _ hk
  rw [Select.topK_value (by decide), Select.topK_value (by decide)] at w
  exact w

variable {x : FVec Ideal S128x512x512 .f32}

/-- A decreasing series has no infinite entry. -/
theorem finite (h : Decreasing x) (b : Fin 128) (t n : Fin 512) : ¬ Infinite (x (ix3 b t n)) := by
  intro hx
  have top : ∀ f : Fin 257, magnitude x (ix3 b n f) = ⊤ := fun f => by
    obtain ⟨c, s, hc, hs, hcs⟩ := circle (ix2 f t)
    have key : ∀ (a : FVec Ideal S257x512 .f32) (r : ℝ), a (ix2 f t) = (r : EReal) → r ≠ 0 → Infinite (part a x b n f) :=
      fun a r ha hr => infinite_sum Finset.univ _ t (Finset.mem_univ t) (by rw [ha]; exact infinite_mul _ r hr hx)
    rw [magnitude_at, pow, squares_top _ _ (hcs.imp (key cosT c hc) (key sinT s hs))]
    rfl
  have := h b n 0
  rw [top, top] at this
  exact lt_irrefl _ this

/-- The squared magnitudes of a series, padded. -/
def padded (x : FVec Ideal S128x512x512 .f32) (b : Fin 128) (n : Fin 512) (f : Fin 264) : EReal :=
  if h : f.1 < 257 then pow x b n ⟨f.1, h⟩ else 0

lemma pow_nonneg (x : FVec Ideal S128x512x512 .f32) (b : Fin 128) (n : Fin 512) (f : Fin 257) : 0 ≤ pow x b n f :=
  add_nonneg (square_nonneg _) (square_nonneg _)

lemma padded_place (x : FVec Ideal S128x512x512 .f32) (b : Fin 128) (n : Fin 512) (f : Fin 257) :
    padded x b n (Select.place f) = pow x b n f := dif_pos f.2

/-- The padded magnitudes are ordered. -/
theorem ordered (h : Decreasing x) (b : Fin 128) (n : Fin 512) : Select.Ordered (padded x b n) (ranking x b n) where
  nonneg f := by
    unfold padded
    split
    · exact pow_nonneg x b n _
    · exact le_rfl
  pads f hf := dif_neg (not_lt.2 hf)
  onto := Select.order_onto _
  anti i j hij := by
    rw [padded_place, padded_place]
    refine sqrt_le _ _ (pow_nonneg x b n _) (pow_nonneg x b n _) ?_
    rw [← magnitude_at, ← magnitude_at]
    exact Select.order_anti (Select.row (magnitude x) b n) i j hij
  strict i j hi hij := by
    rw [padded_place, padded_place]
    refine sqrt_lt _ _ (pow_nonneg x b n _) (pow_nonneg x b n _) ?_
    rw [← magnitude_at, ← magnitude_at]
    have := h b n ⟨i.1, hi⟩
    rwa [show (⟨i.1 + 1, by omega⟩ : Fin 257) = j from Fin.ext hij.symm] at this

end Cert.Values

end
-- ==== Proof.Values.Kernel.lean ====
module

public import proofs.«01_k».proof.Proof.Values.Selection
public import proofs.«01_k».proof.Proof.Values.KernelTables
public import proofs.«01_k».proof.Proof.Values.Leading
public import proofs.«01_k».proof.Proof.KernelIdeal.Result

@[expose] public section

/-! # The kernel's result at a place

For a series whose leading magnitudes decrease, the kernel's spectrum is the transform by the tables themselves, since
nothing is lost by splitting a finite number; what it keeps are the frequencies of the twenty largest magnitudes; and
its inverse transform sums over these. -/

noncomputable section

namespace Cert.Values

open Cert.KernelIdeal Cert.KernelIdeal.Gen Cert.KernelIdeal.Hand Idealize.ShloMosaic Idealize.ShloMosaic.TcCoe Idealize.SL.Sem

/-- The spectrum at a place: the product by the table's two parts. -/
lemma spectrum_at (hi lo : FVec Ideal S528x512 .bf16) (y : FVec Ideal S1x512x512 .f32) (r : Fin 528) (n : Fin 512) :
    spectrum (F := Ideal) hi lo y (ix4 0 0 r n)
      = ((∑ t : Fin 512, hi (ix2 r t) * y (ix3 0 t n)) + ∑ t : Fin 512, hi (ix2 r t) * (y (ix3 0 t n) - y (ix3 0 t n)))
        + ∑ t : Fin 512, lo (ix2 r t) * y (ix3 0 t n) := by
  pointwise [Cert.KernelIdeal.Hand.spectrum, k0_pay4, k0_pay2, k0_pay3]

lemma sub_self_finite (a : EReal) (h : ¬ Infinite a) : a - a = 0 :=
  EReal.sub_self (fun e => h (.inl e)) (fun e => h (.inr e))

lemma stacked_finite (r : Fin 528) (t : Fin 512) : ¬ Infinite (stacked cosT sinT (ix2 r t)) := by
  have tf : ∀ a : FVec Ideal S257x512 .f32, (∀ i, ∃ c : ℝ, a i = (c : EReal)) → ∀ f : Fin 264, ¬ Infinite (tall a (ix2 f t)) := by
    intro a ha f hf
    rw [tall_at] at hf
    split at hf
    · next h =>
      obtain ⟨c, hc⟩ := ha (ix2 ⟨f.1, h⟩ t)
      rw [hc] at hf
      exact hf.elim (EReal.coe_ne_top c) (EReal.coe_ne_bot c)
    · exact hf.elim EReal.zero_ne_top EReal.zero_ne_bot
  by_cases h : r.1 < 264
  · have := stacked_first cosT sinT ⟨r.1, h⟩ t
    rw [show r = ⟨(⟨r.1, h⟩ : Fin 264).1, by omega⟩ from rfl, this]
    exact tf cosT (fun i => by obtain ⟨c, _, h, _⟩ := circle i; exact ⟨c, h⟩) _
  · have hr := r.2
    have := stacked_second cosT sinT ⟨r.1 - 264, by omega⟩ t
    rw [show r = ⟨264 + (⟨r.1 - 264, by omega⟩ : Fin 264).1, by simp only []; omega⟩ from Fin.ext (by simp only []; omega), this]
    exact tf sinT (fun i => by obtain ⟨_, c, _, h, _⟩ := circle i; exact ⟨c, h⟩) _

/-- The kernel's transform of a batch entry. -/
def transform (x : FVec Ideal S128x512x512 .f32) (b : Fin 128) : FVec Ideal S1x1x528x512 .f32 :=
  spectrum (F := Ideal) (truncf .bf16 (stacked cosT sinT) bitsLt_bf16_f32 : FVec Ideal S528x512 .bf16)
    (truncf .bf16 (subf (stacked cosT sinT)
      (extf .f32 (truncf .bf16 (stacked cosT sinT) bitsLt_bf16_f32 : FVec Ideal S528x512 .bf16) bitsLt_bf16_f32)) bitsLt_bf16_f32)
    (batch b x)

variable {x : FVec Ideal S128x512x512 .f32}

/-- The splitting loses nothing. -/
lemma transform_at (h : Decreasing x) (b : Fin 128) (r : Fin 528) (n : Fin 512) :
    transform x b (ix4 0 0 r n) = ∑ t : Fin 512, stacked cosT sinT (ix2 r t) * x (ix3 b t n) := by
  refine (spectrum_at _ _ _ r n).trans ?_
  have z1 : (∑ t : Fin 512, stacked cosT sinT (ix2 r t) * (x (ix3 b t n) - x (ix3 b t n))) = 0 :=
    Finset.sum_eq_zero fun t _ => by rw [sub_self_finite _ (finite h b t n), mul_zero]
  have z2 : (∑ t : Fin 512, (stacked cosT sinT (ix2 r t) - stacked cosT sinT (ix2 r t)) * x (ix3 b t n)) = 0 :=
    Finset.sum_eq_zero fun t _ => by rw [sub_self_finite _ (stacked_finite r t), zero_mul]
  show ((∑ t : Fin 512, stacked cosT sinT (ix2 r t) * x (ix3 b t n))
      + ∑ t : Fin 512, stacked cosT sinT (ix2 r t) * (x (ix3 b t n) - x (ix3 b t n)))
    + (∑ t : Fin 512, (stacked cosT sinT (ix2 r t) - stacked cosT sinT (ix2 r t)) * x (ix3 b t n)) = _
  rw [z1, z2, add_zero, add_zero]

/-- A half of the transform, padded. -/
def half264 (a : FVec Ideal S257x512 .f32) (x : FVec Ideal S128x512x512 .f32) (b : Fin 128) (n : Fin 512) (f : Fin 264) : EReal :=
  if h : f.1 < 257 then part a x b n ⟨f.1, h⟩ else 0

lemma tall_sum (a : FVec Ideal S257x512 .f32) (x : FVec Ideal S128x512x512 .f32) (b : Fin 128) (n : Fin 512) (f : Fin 264) :
    (∑ t : Fin 512, tall a (ix2 f t) * x (ix3 b t n)) = half264 a x b n f := by
  unfold half264
  split
  · next hf => exact Finset.sum_congr rfl fun t _ => by rw [tall_at, dif_pos hf, mul_comm]
  · next hf => exact Finset.sum_eq_zero fun t _ => by rw [tall_at, dif_neg hf, zero_mul]

lemma cosPart_at (h : Decreasing x) (b : Fin 128) (f : Fin 264) (n : Fin 512) :
    cosPart (F := Ideal) (transform x b) (ix2 f n) = half264 cosT x b n f := by
  have e : ∀ ab : FVec Ideal S1x1x528x512 .f32, cosPart (F := Ideal) ab (ix2 f n) = ab (ix4 0 0 ⟨f.1, by omega⟩ n) := fun ab => by
    pointwise [cosPart]
  rw [e, transform_at h, ← tall_sum]
  exact Finset.sum_congr rfl fun t _ => by rw [stacked_first]

lemma sinPart_at (h : Decreasing x) (b : Fin 128) (f : Fin 264) (n : Fin 512) :
    sinPart (F := Ideal) (transform x b) (ix2 f n) = half264 sinT x b n f := by
  have e : ∀ ab : FVec Ideal S1x1x528x512 .f32, sinPart (F := Ideal) ab (ix2 f n) = ab (ix4 0 0 ⟨264 + f.1, by omega⟩ n) := fun ab => by
    pointwise [sinPart]
  rw [e, transform_at h, ← tall_sum]
  exact Finset.sum_congr rfl fun t _ => by rw [stacked_second]

lemma power_at (h : Decreasing x) (b : Fin 128) (f : Fin 264) (n : Fin 512) :
    power (F := Ideal) (transform x b) (ix2 f n) = padded x b n f := by
  show cosPart (F := Ideal) (transform x b) (ix2 f n) * cosPart (F := Ideal) (transform x b) (ix2 f n)
    + sinPart (F := Ideal) (transform x b) (ix2 f n) * sinPart (F := Ideal) (transform x b) (ix2 f n) = _
  rw [cosPart_at h, sinPart_at h]
  unfold half264 padded
  split
  · rfl
  · simp

lemma masked_read (k : IVec S264x512 1) (s : FVec Ideal S264x512 .f32) (f : Fin 264) (n : Fin 512) :
    masked (F := Ideal) k s (ix2 f n) = Scalar.select (k (ix2 f n)) (s (ix2 f n)) (Ideal.ofBits .f32 0x00000000#32) := rfl

open Classical in
/-- A kept half of the transform. -/
lemma masked_at (h : Decreasing x) (b : Fin 128) (f : Fin 264) (n : Fin 512) (s : FVec Ideal S264x512 .f32) :
    masked (F := Ideal) (kept (F := Ideal) (power (F := Ideal) (transform x b))) s (ix2 f n)
      = if ∃ i : Fin 257, i.1 < 20 ∧ f = Select.place (ranking x b n i) then s (ix2 f n) else (0 : EReal) := by
  rw [masked_read, kept_at, WordCmp.select_decide, Ideal.ofBits_zero_f32,
    show (fun g : Fin 264 => power (F := Ideal) (transform x b) (ix2 g n)) = padded x b n from funext fun g => power_at h b g n,
    power_at h]
  exact if_congr (Select.threshold_le (ordered h b n) f) rfl rfl

lemma inverse_sum (r : FVec Ideal S512x264 .bf16) (s : FVec Ideal S264x512 .bf16) (t n : Fin 512) :
    inverse (F := Ideal) r s (ix2 t n) = ∑ f : Fin 264, r (ix2 t f) * s (ix2 f n) := by
  pointwise [inverse]

lemma filtered_at (ab : FVec Ideal S1x1x528x512 .f32) (rr ri : FVec Ideal S512x264 .bf16) (y : FVec Ideal S1x512x512 .f32)
    (t n : Fin 512) :
    filtered (F := Ideal) ab rr ri y (ix3 0 t n) = y (ix3 0 t n)
      - (inverse (F := Ideal) rr (masked (F := Ideal) (kept (F := Ideal) (power (F := Ideal) ab)) (cosPart (F := Ideal) ab)) (ix2 t n) + inverse (F := Ideal) ri (masked (F := Ideal) (kept (F := Ideal) (power (F := Ideal) ab)) (sinPart (F := Ideal) ab)) (ix2 t n)) := by
  have e : ∀ (u v w : FVec Ideal S512x512 .f32), shapeCast S1x512x512 (subf u (addf v w)) shapeCasts_S512x512_S1x512x512 (ix3 0 t n)
      = u (ix2 t n) - (v (ix2 t n) + w (ix2 t n)) := fun u v w => by
    pointwise
  have e' : shapeCast S512x512 y shapeCasts_S1x512x512_S512x512 (ix2 t n) = y (ix3 0 t n) := by
    pointwise
  rw [← e']
  exact e _ _ _

/-- A sum over the padded places of what the first ones hold. -/
lemma sum_places (g : Fin 264 → EReal) (hg : ∀ f, 257 ≤ f.1 → g f = 0) :
    (∑ f : Fin 264, g f) = ∑ f : Fin 257, g (Select.place f) := by
  have := Fin.sum_univ_add (a := 257) (b := 7) g
  have z : (∑ i : Fin 7, g (Fin.natAdd 257 i)) = 0 :=
    Finset.sum_eq_zero fun i _ => hg (Fin.natAdd 257 i) (Nat.le_add_right _ _)
  rw [show (∑ f : Fin 264, g f) = ∑ f : Fin (257 + 7), g f from rfl, this, z, add_zero]
  rfl

end Cert.Values

end
-- ==== Proof.Values.Inverse.lean ====
module

public import proofs.«01_k».proof.Proof.Values.Kernel

@[expose] public section

/-! # The kernel's inverse transform

On the kept frequencies the kernel's inverse transform is the reference's on the masked ones, and with it the result. -/

noncomputable section

namespace Cert.Values

open Cert.KernelIdeal Cert.KernelIdeal.Gen Cert.KernelIdeal.Hand Idealize.ShloMosaic Idealize.ShloMosaic.TcCoe Idealize.SL.Sem

variable {x : FVec Ideal S128x512x512 .f32}

lemma place_injective : Function.Injective Select.place := fun f g e =>
  Fin.ext (show (Select.place f).1 = (Select.place g).1 from congrArg Fin.val e)

lemma same_places (f : Fin 257) (σ : Fin 257 → Fin 257) :
    (∃ i : Fin 257, i.1 < 20 ∧ Select.place f = Select.place (σ i)) ↔ ∃ i : Fin 257, i.1 < 20 ∧ f = σ i := by
  simp only [place_injective.eq_iff]

open Classical in
/-- A sum over the padded, kept places is the reference's sum over the masked ones. -/
lemma inverse_of (a : FVec Ideal S257x512 .f32) (x : FVec Ideal S128x512x512 .f32) (b : Fin 128) (t n : Fin 512)
    (r : FVec Ideal S512x264 .bf16) (q : FVec Ideal S264x512 .bf16) (hr : ∀ f, r (ix2 t f) = wide (weighted a) (ix2 t f))
    (hq : ∀ f, q (ix2 f n) = if ∃ i : Fin 257, i.1 < 20 ∧ f = Select.place (ranking x b n i) then half264 a x b n f else (0 : EReal)) :
    inverse (F := Ideal) r q (ix2 t n) = back a x (ix3 b t n) := by
  rw [inverse_sum, back_at]
  refine (sum_places (fun f => r (ix2 t f) * q (ix2 f n)) fun f hf => ?_).trans ?_
  · show r (ix2 t f) * q (ix2 f n) = 0
    rw [hr, wide_at, dif_neg (not_lt.2 hf), zero_mul]
  refine Finset.sum_congr rfl fun f _ => ?_
  have same : (∃ i : Fin 257, i.1 < 20 ∧ Select.place f = Select.place (ranking x b n i))
      ↔ ∃ i : Fin 257, i.1 < 20 ∧ f = ranking x b n i :=
    same_places f (ranking x b n)
  have p : half264 a x b n (Select.place f) = part a x b n f := dif_pos f.2
  have w : wide (weighted a) (ix2 t (Select.place f)) = weighted a (ix2 f t) := (wide_at _ t _).trans (dif_pos f.2)
  show r (ix2 t (Select.place f)) * q (ix2 (Select.place f) n) = _
  rw [hr, hq, w, mask_at, p, if_congr same rfl rfl]
  split
  · rw [mul_one]; exact mul_comm _ _
  · rw [mul_zero, mul_zero, zero_mul]

/-- One half of the kernel's inverse transform is the reference's. -/
lemma inverse_eq (h : Decreasing x) (a : FVec Ideal S257x512 .f32) (s : FVec Ideal S264x512 .f32) (b : Fin 128)
    (hs : ∀ f n, s (ix2 f n) = half264 a x b n f) (t n : Fin 512) :
    inverse (F := Ideal) (truncf .bf16 (wide (weighted a)) bitsLt_bf16_f32 : FVec Ideal S512x264 .bf16)
      (masked (F := Ideal) (kept (F := Ideal) (power (F := Ideal) (transform x b))) s) (ix2 t n) = back a x (ix3 b t n) :=
  inverse_of a x b t n _ _ (fun _ => rfl) fun f => (masked_at h b f n s).trans (by rw [hs])

/-- The kernel's result is the reference's. -/
theorem result_reference (m : (ℓ : Loc nD τ sig) → Buf (Elt Ideal) ℓ) (c : Dev nD)
    (h : Decreasing (m ((c : Thread nD τ).loc main_arg0))) :
    result m c = reference (m ((c : Thread nD τ).loc main_arg0)) := by
  unfold result resultOf
  rw [V_hi, V_lo, V_cos, V_sin]
  funext i
  obtain ⟨b, t, n, rfl⟩ : ∃ (b : Fin 128) (t n : Fin 512), i = ix3 b t n := ⟨i 0, i 1, i 2, by
    funext q
    match q with
    | ⟨0, _⟩ => rfl
    | ⟨1, _⟩ => rfl
    | ⟨2, _⟩ => rfl⟩
  refine (filtered_at (transform _ b) _ _ _ t n).trans ?_
  rw [inverse_eq h cosT _ b (fun f n => cosPart_at h b f n), inverse_eq h sinT _ b (fun f n => sinPart_at h b f n)]
  rfl

end Cert.Values

end
-- ==== Proof.Values.Fourier.lean ====
module

public import proofs.«01_k».proof.Proof.Values.Tables

@[expose] public section

/-! # The tables are those of the discrete Fourier transform

The angle of frequency `f` at time `t` is `f t` modulo 512 steps of a 512th of a turn. Cosine and sine don't change by
whole turns, so the tables hold the cosine and the sine of `2 π f t / 512`. -/

noncomputable section

namespace Cert.Values

open Cert.ReferenceIdeal Cert.ReferenceIdeal.Gen Idealize.ShloMosaic

/-- The word of `f t` modulo 512. -/
def word (f : Fin 257) (t : Fin 512) : BitVec 32 :=
  IntOp.remsi .host (BitVec.ofNat 32 f.1 * BitVec.ofNat 32 t.1) 512#32

/-- It is the number `f t` modulo 512. -/
lemma word_toInt (f : Fin 257) (t : Fin 512) : (word f t).toInt = ((f.1 * t.1 % 512 : ℕ) : ℤ) := by
  have hf := f.2
  have ht := t.2
  have hb : f.1 * t.1 ≤ 256 * 511 := Nat.mul_le_mul (by omega) (by omega)
  have hw : BitVec.ofNat 32 f.1 * BitVec.ofNat 32 t.1 = BitVec.ofNat 32 (f.1 * t.1) := (BitVec.ofNat_mul ..).symm
  have hi : (BitVec.ofNat 32 (f.1 * t.1)).toInt = ((f.1 * t.1 : ℕ) : ℤ) := by
    rw [BitVec.toInt_eq_toNat_of_lt] <;> simp only [BitVec.toNat_ofNat] <;> omega
  have hc : ¬ IntOp.SDivCorner (BitVec.ofNat 32 (f.1 * t.1)) 512#32 := by
    rintro (h | ⟨_, h⟩) <;> exact absurd h (by decide)
  rw [word, hw, IntOp.remsi, if_neg hc, BitVec.toInt_srem, hi]
  rfl

/-- The angle of frequency `f` at time `t`. -/
lemma angle_at (f : Fin 257) (t : Fin 512) :
    angles (ix2 f t) = ((((f.1 * t.1 % 512 : ℕ) : ℝ) * (2 * Real.pi / 512) : ℝ) : EReal) := by
  have key : angles (ix2 f t) = (((word f t).toInt : ℝ) : EReal)
      * (Ideal.atan (Ideal.ofBits .f32 0x3F800000#32) * Ideal.ofBits .f32 0x3C800000#32) := rfl
  rw [key, turn, EReal.coe_mul, word_toInt, Int.cast_natCast]

/-- A whole number of turns more or less. -/
lemma turns (k : ℕ) : ∃ n : ℕ, (k : ℝ) * (2 * Real.pi / 512) = ((k % 512 : ℕ) : ℝ) * (2 * Real.pi / 512) + n * (2 * Real.pi) := by
  refine ⟨k / 512, ?_⟩
  have h : (k : ℝ) = 512 * (k / 512 : ℕ) + (k % 512 : ℕ) := by exact_mod_cast (Nat.div_add_mod k 512).symm
  rw [h]
  ring_nf

/-- The first table holds the cosines of the discrete Fourier transform, exactly. -/
theorem cosT_at (f : Fin 257) (t : Fin 512) :
    cosT (ix2 f t) = ((Real.cos (2 * Real.pi * f.1 * t.1 / 512) : ℝ) : EReal) := by
  show Ideal.cos (angles (ix2 f t)) = _
  obtain ⟨n, hn⟩ := turns (f.1 * t.1)
  rw [angle_at, show 2 * Real.pi * f.1 * t.1 / 512 = ((f.1 * t.1 : ℕ) : ℝ) * (2 * Real.pi / 512) by push_cast; ring, hn,
    Real.cos_add_nat_mul_two_pi]
  rfl

/-- The second table holds its sines, exactly. -/
theorem sinT_at (f : Fin 257) (t : Fin 512) :
    sinT (ix2 f t) = ((Real.sin (2 * Real.pi * f.1 * t.1 / 512) : ℝ) : EReal) := by
  show Ideal.sin (angles (ix2 f t)) = _
  obtain ⟨n, hn⟩ := turns (f.1 * t.1)
  rw [angle_at, show 2 * Real.pi * f.1 * t.1 / 512 = ((f.1 * t.1 : ℕ) : ℝ) * (2 * Real.pi / 512) by push_cast; ring, hn,
    Real.sin_add_nat_mul_two_pi]
  rfl

/-- The first and the last frequency have no sine part: what an inverse real transform ignores there is zero. -/
theorem sinT_ends (f : Fin 257) (t : Fin 512) (h : f.1 = 0 ∨ f.1 = 256) : sinT (ix2 f t) = 0 := by
  rw [sinT_at, ← EReal.coe_zero]
  congr 1
  rcases h with h | h
  · simp [h]
  · rw [h, show 2 * Real.pi * ((256 : ℕ) : ℝ) * t.1 / 512 = t.1 * Real.pi by push_cast; ring]
    exact Real.sin_nat_mul_pi t.1

end Cert.Values

end
-- ==== Proof.lean ====
module

public import proofs.«01_k».proof.Defs
public import proofs.«01_k».proof.Proof.Kernel.Frame
public import proofs.«01_k».proof.Proof.KernelIdeal.Result
public import proofs.«01_k».proof.Proof.ReferenceIdeal.Frame
public import proofs.«01_k».proof.Proof.Gen.Pre_leading_magnitudes_distinct
public import proofs.«01_k».proof.Proof.Values.Inverse
public import proofs.«01_k».proof.Proof.Values.Fourier

@[expose] public section

noncomputable section

namespace Cert.Proof

open Idealize.ShloMosaic Idealize.SL.Sem

/-- The frame of the ideal kernel. -/
theorem frame_KernelIdeal : Cert.quiescent_KernelIdeal := fun m ρ _ =>
  (θ_run Cert.KernelIdeal.defs _ _).mono (fun _ h => ⟨fun c => (h.1 c).2, h.2⟩) (Cert.KernelIdeal.Hand.run m ρ)

attribute [local instance] Cert.Pre_leading_magnitudes_distinct.Gen.facts in
/-- The ideal kernel and the reference end with equal results. -/
theorem equal : Cert.algebraic_KernelIdeal_ReferenceIdeal_pre_leading_magnitudes_distinct := by
  intro m g m' g' hpre hargs
  refine ⟨fun c => Cert.KernelIdeal.Hand.result m c,
    (θ_run Cert.KernelIdeal.defs _ _).mono (fun _ h => h.1) (Cert.KernelIdeal.Hand.run m g),
    (θ_run Cert.ReferenceIdeal.defs _ _).mono (fun _ h c => ⟨(h c).1.trans ?_, (h c).2⟩)
      (Cert.ReferenceIdeal.Value.run m' g')⟩
  refine (Cert.Values.result_eq m' c).trans ?_
  rw [(hargs c).1]
  exact (Cert.Values.result_reference m c (Cert.Values.decreasing _ _ _ _ _ _ _ (hpre c))).symm

theorem claim : Cert.Claim := ⟨Cert.Kernel.Gen.facts, Cert.KernelIdeal.Gen.facts, Cert.ReferenceIdeal.Gen.facts,
  Cert.Pre_leading_magnitudes_distinct.Gen.facts,
  Cert.Kernel.Hand.quiescent, frame_KernelIdeal, fun m ρ _ => frame_KernelIdeal m ρ trivial,
  Cert.ReferenceIdeal.Hand.quiescent, fun m ρ _ => Cert.ReferenceIdeal.Hand.quiescent m ρ trivial, trivial, equal⟩

end Cert.Proof

end
